-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_ranges [hPre_setup_ranges : Cert.Pre_setup_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_ranges [hPre_setup_ranges : Cert.Pre_setup_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_setup_ranges [hKernelIdeal : Cert.KernelIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_setup_ranges [hReferenceIdeal : Cert.ReferenceIdeal.Facts] [hPre_setup_ranges : Cert.Pre_setup_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_setup_ranges [hKernelIdeal : Cert.KernelIdeal.Facts] [hReferenceIdeal : Cert.ReferenceIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_setup_ranges : Cert.Pre_setup_ranges.Facts),
    quiescent_Kernel (hKernel := hKernel)
    ∧ quiescent_KernelIdeal (hKernelIdeal := hKernelIdeal)
    ∧ quiescent_KernelIdeal_pre_setup_ranges (hKernelIdeal := hKernelIdeal) (hPre_setup_ranges := hPre_setup_ranges)
    ∧ quiescent_ReferenceIdeal (hReferenceIdeal := hReferenceIdeal)
    ∧ quiescent_ReferenceIdeal_pre_setup_ranges (hReferenceIdeal := hReferenceIdeal) (hPre_setup_ranges := hPre_setup_ranges)
    ∧ preserves_Kernel_KernelIdeal
    ∧ algebraic_KernelIdeal_ReferenceIdeal_pre_setup_ranges (hKernelIdeal := hKernelIdeal) (hReferenceIdeal := hReferenceIdeal) (hPre_setup_ranges := hPre_setup_ranges)
-- ==== Pre_setup_ranges.lean ====
abbrev S16x1024x32x32 : Shape := ⟨4, ![16, 1024, 32, 32]⟩
abbrev S16x1024x2 : Shape := ⟨3, ![16, 1024, 2]⟩
abbrev S2x16x1024x32x32 : Shape := ⟨5, ![2, 16, 1024, 32, 32]⟩
abbrev S_ : Shape := ⟨0, ![]⟩
abbrev S1x16x1024x32x32 : Shape := ⟨5, ![1, 16, 1024, 32, 32]⟩

class Facts : Prop where
  bcast_S_S16x1024x2 : S_.BroadcastsInDim S16x1024x2 (![] : Fin 0 → Fin S16x1024x2.rank)
  reducesTo_S16x1024x2_S_d0_1_2 : S16x1024x2.ReducesTo [0, 1, 2] S_
  h_S_ : 0 < S_.numel
  slices_S2x16x1024x32x32_S1x16x1024x32x32_0_0_0_0_0 : S2x16x1024x32x32.Slices ![0, 0, 0, 0, 0] S1x16x1024x32x32
  shapeCasts_S1x16x1024x32x32_S16x1024x32x32 : S1x16x1024x32x32.ShapeCasts S16x1024x32x32
  reducesTo_S16x1024x32x32_S_d0_1_2_3 : S16x1024x32x32.ReducesTo [0, 1, 2, 3] S_
  slices_S2x16x1024x32x32_S1x16x1024x32x32_1_0_0_0_0 : S2x16x1024x32x32.Slices ![1, 0, 0, 0, 0] S1x16x1024x32x32

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S16x1024x32x32 .f32) (main_arg1 : IVec S16x1024x2 32) (main_arg2 : IVec S2x16x1024x32x32 32) : IVec S_ 1 :=
  let main_v0 : IVec S16x1024x32x32 32 := iotaInDim S16x1024x32x32 32 2
  let main_v1 : IVec S16x1024x32x32 32 := iotaInDim S16x1024x32x32 32 3
  let main_c : IVec S_ 32 := constantI S_ 32 0#32
  let main_v2 : IVec S16x1024x2 32 := broadcastInDim S16x1024x2 ![] bcast_S_S16x1024x2 main_c
  let main_v3 : IVec S16x1024x2 1 := cmpi .sge main_arg1 main_v2
  let main_c_0 : IVec S_ 1 := constantI S_ 1 1#1
  let main_v4 : IVec S_ 1 := (fun x v => Host.reduce IntOp.andi x v reducesTo_S16x1024x2_S_d0_1_2 h_S_) main_v3 main_c_0
  let main_c_1 : IVec S_ 32 := constantI S_ 32 32#32
  let main_v5 : IVec S16x1024x2 32 := broadcastInDim S16x1024x2 ![] bcast_S_S16x1024x2 main_c_1
  let main_v6 : IVec S16x1024x2 1 := cmpi .slt main_arg1 main_v5
  let main_c_2 : IVec S_ 1 := constantI S_ 1 1#1
  let main_v7 : IVec S_ 1 := (fun x v => Host.reduce IntOp.andi x v reducesTo_S16x1024x2_S_d0_1_2 h_S_) main_v6 main_c_2
  let main_v8 : IVec S_ 1 := andi main_v4 main_v7
  let main_v9 : IVec S1x16x1024x32x32 32 := (extractStridedSlice S1x16x1024x32x32 ![0, 0, 0, 0, 0] · slices_S2x16x1024x32x32_S1x16x1024x32x32_0_0_0_0_0) main_arg2
  let main_v10 : IVec S16x1024x32x32 32 := shapeCast S16x1024x32x32 main_v9 shapeCasts_S1x16x1024x32x32_S16x1024x32x32
  let main_v11 : IVec S16x1024x32x32 1 := cmpi .eq main_v10 main_v0
  let main_c_3 : IVec S_ 1 := constantI S_ 1 1#1
  let main_v12 : IVec S_ 1 := (fun x v => Host.reduce IntOp.andi x v reducesTo_S16x1024x32x32_S_d0_1_2_3 h_S_) main_v11 main_c_3
  let main_v13 : IVec S_ 1 := andi main_v8 main_v12
  let main_v14 : IVec S1x16x1024x32x32 32 := (extractStridedSlice S1x16x1024x32x32 ![1, 0, 0, 0, 0] · slices_S2x16x1024x32x32_S1x16x1024x32x32_1_0_0_0_0) main_arg2
  let main_v15 : IVec S16x1024x32x32 32 := shapeCast S16x1024x32x32 main_v14 shapeCasts_S1x16x1024x32x32_S16x1024x32x32
  let main_v16 : IVec S16x1024x32x32 1 := cmpi .eq main_v15 main_v1
  let main_c_4 : IVec S_ 1 := constantI S_ 1 1#1
  let main_v17 : IVec S_ 1 := (fun x v => Host.reduce IntOp.andi x v reducesTo_S16x1024x32x32_S_d0_1_2_3 h_S_) main_v16 main_c_4
  fn_part1 (F := F) main_v13 main_v17
-- ==== Kernel.lean ====
abbrev S16x1024x32x32 : Shape := ⟨4, ![16, 1024, 32, 32]⟩
abbrev S16x1024x2 : Shape := ⟨3, ![16, 1024, 2]⟩
abbrev S2x16x1024x32x32 : Shape := ⟨5, ![2, 16, 1024, 32, 32]⟩
abbrev S1024x6 : Shape := ⟨2, ![1024, 6]⟩
abbrev S16x32x32x1024 : Shape := ⟨4, ![16, 32, 32, 1024]⟩
abbrev S16x1024x1024 : Shape := ⟨3, ![16, 1024, 1024]⟩
abbrev S16x2x1024 : Shape := ⟨3, ![16, 2, 1024]⟩
abbrev S16x1x1024 : Shape := ⟨3, ![16, 1, 1024]⟩
abbrev S1x1024x1024 : Shape := ⟨3, ![1, 1024, 1024]⟩
abbrev S1x2x1024 : Shape := ⟨3, ![1, 2, 1024]⟩
abbrev S1x1x1024 : Shape := ⟨3, ![1, 1, 1024]⟩
abbrev S1024x1024 : Shape := ⟨2, ![1024, 1024]⟩
abbrev S2x1024 : Shape := ⟨2, ![2, 1024]⟩
abbrev S1x1024 : Shape := ⟨2, ![1, 1024]⟩
abbrev S6x1024 : Shape := ⟨2, ![6, 1024]⟩
abbrev S1024 : Shape := ⟨1, ![1024]⟩
abbrev S1 : Shape := ⟨1, ![1]⟩
abbrev S1x1 : Shape := ⟨2, ![1, 1]⟩

abbrev nBuf : Space → Nat
  | .hbm => 8
  | .vmem => 7
  | .smem => 0
  | _ => 0

abbrev bufTy : (tb : Table) → Fin (tcTables nBuf tb) → BufTy
  | .hbm, ⟨0, _⟩ => ⟨S16x1024x32x32, .f32⟩
  | .hbm, ⟨1, _⟩ => ⟨S16x1024x2, .i32⟩
  | .hbm, ⟨2, _⟩ => ⟨S2x16x1024x32x32, .i32⟩
  | .hbm, ⟨3, _⟩ => ⟨S1024x6, .f32⟩
  | .hbm, ⟨4, _⟩ => ⟨S16x32x32x1024, .f32⟩
  | .hbm, ⟨5, _⟩ => ⟨S16x1024x1024, .f32⟩
  | .hbm, ⟨6, _⟩ => ⟨S16x2x1024, .i32⟩
  | .hbm, ⟨7, _⟩ => ⟨S16x1x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x6, .f32⟩
  | .local _ .vmem, ⟨3, _⟩ => ⟨S1x2x1024, .i32⟩
  | .local _ .vmem, ⟨4, _⟩ => ⟨S1x2x1024, .i32⟩
  | .local _ .vmem, ⟨5, _⟩ => ⟨S1x1x1024, .f32⟩
  | .local _ .vmem, ⟨6, _⟩ => ⟨S1x1x1024, .f32⟩
  | _, _ => ⟨S16x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1024x32x32 : Shape := ⟨4, ![16, 1024, 32, 32]⟩
abbrev S16x1024x2 : Shape := ⟨3, ![16, 1024, 2]⟩
abbrev S2x16x1024x32x32 : Shape := ⟨5, ![2, 16, 1024, 32, 32]⟩
abbrev S5x5 : Shape := ⟨2, ![5, 5]⟩
abbrev S_ : Shape := ⟨0, ![]⟩
abbrev S25 : Shape := ⟨1, ![25]⟩
abbrev S25x1 : Shape := ⟨2, ![25, 1]⟩
abbrev S25x2 : Shape := ⟨2, ![25, 2]⟩
abbrev S9x9 : Shape := ⟨2, ![9, 9]⟩
abbrev S81 : Shape := ⟨1, ![81]⟩
abbrev S81x1 : Shape := ⟨2, ![81, 1]⟩
abbrev S81x2 : Shape := ⟨2, ![81, 2]⟩
abbrev S16x1024x1x2 : Shape := ⟨4, ![16, 1024, 1, 2]⟩
abbrev S1x1x25x2 : Shape := ⟨4, ![1, 1, 25, 2]⟩
abbrev S16x1024x25x2 : Shape := ⟨4, ![16, 1024, 25, 2]⟩
abbrev S16x1024x25x1 : Shape := ⟨4, ![16, 1024, 25, 1]⟩
abbrev S16x1024x25 : Shape := ⟨3, ![16, 1024, 25]⟩
abbrev S16384x25x2 : Shape := ⟨3, ![16384, 25, 2]⟩
abbrev S16384 : Shape := ⟨1, ![16384]⟩
abbrev S16384x32x32 : Shape := ⟨3, ![16384, 32, 32]⟩
abbrev S16384x1 : Shape := ⟨2, ![16384, 1]⟩
abbrev S16384x25x1 : Shape := ⟨3, ![16384, 25, 1]⟩
abbrev S16384x25 : Shape := ⟨2, ![16384, 25]⟩
abbrev S16384x25x3 : Shape := ⟨3, ![16384, 25, 3]⟩
abbrev S16384x1024 : Shape := ⟨2, ![16384, 1024]⟩
abbrev S16384x2 : Shape := ⟨2, ![16384, 2]⟩
abbrev S1x16x1024x32x32 : Shape := ⟨5, ![1, 16, 1024, 32, 32]⟩
abbrev S16384x1x1 : Shape := ⟨3, ![16384, 1, 1]⟩
abbrev S16384x3 : Shape := ⟨2, ![16384, 3]⟩
abbrev S1x81 : Shape := ⟨2, ![1, 81]⟩
abbrev S16384x81 : Shape := ⟨2, ![16384, 81]⟩
abbrev S16384x81x1 : Shape := ⟨3, ![16384, 81, 1]⟩
abbrev S1x81x2 : Shape := ⟨3, ![1, 81, 2]⟩
abbrev S16384x81x2 : Shape := ⟨3, ![16384, 81, 2]⟩
abbrev S16384x1x2 : Shape := ⟨3, ![16384, 1, 2]⟩
abbrev S16384x81x3 : Shape := ⟨3, ![16384, 81, 3]⟩
abbrev S16x1024 : Shape := ⟨2, ![16, 1024]⟩
abbrev S16 : Shape := ⟨1, ![16]⟩
abbrev S16x1 : Shape := ⟨2, ![16, 1]⟩
abbrev S16x1x1024 : Shape := ⟨3, ![16, 1, 1024]⟩

abbrev nBuf : Space → Nat
  | .hbm => 313
  | .vmem => 0
  | .smem => 0
  | _ => 0

abbrev hbmTy0_0 (i : Nat) : BufTy := match i % 128 with
  | 0 => ⟨S16x1024x32x32, .f32⟩
  | 1 => ⟨S16x1024x2, .i32⟩
  | 2 => ⟨S2x16x1024x32x32, .i32⟩
  | 3 => ⟨S5x5, .i32⟩
  | 4 => ⟨S_, .i32⟩
  | 5 => ⟨S5x5, .i32⟩
  | 6 => ⟨S5x5, .i32⟩
  | 7 => ⟨S5x5, .i32⟩
  | 8 => ⟨S_, .i32⟩
  | 9 => ⟨S5x5, .i32⟩
  | 10 => ⟨S5x5, .i32⟩
  | 11 => ⟨S25, .i32⟩
  | 12 => ⟨S25, .i32⟩
  | 13 => ⟨S25x1, .i32⟩
  | 14 => ⟨S25x1, .i32⟩
  | 15 => ⟨S25x2, .i32⟩
  | 16 => ⟨S25x2, .f32⟩
  | 17 => ⟨S25x2, .f32⟩
  | 18 => ⟨S_, .f32⟩
  | 19 => ⟨S25, .f32⟩
  | 20 => ⟨S25, .f32⟩
  | 21 => ⟨S_, .f32⟩
  | 22 => ⟨S25, .f32⟩
  | 23 => ⟨S25, .i1⟩
  | 24 => ⟨S25, .i32⟩
  | 25 => ⟨S25x1, .i32⟩
  | 26 => ⟨S25x2, .i32⟩
  | 27 => ⟨S25x2, .i32⟩
  | 28 => ⟨S9x9, .i32⟩
  | 29 => ⟨S_, .i32⟩
  | 30 => ⟨S9x9, .i32⟩
  | 31 => ⟨S9x9, .i32⟩
  | 32 => ⟨S9x9, .i32⟩
  | 33 => ⟨S_, .i32⟩
  | 34 => ⟨S9x9, .i32⟩
  | 35 => ⟨S9x9, .i32⟩
  | 36 => ⟨S81, .i32⟩
  | 37 => ⟨S81, .i32⟩
  | 38 => ⟨S81x1, .i32⟩
  | 39 => ⟨S81x1, .i32⟩
  | 40 => ⟨S81x2, .i32⟩
  | 41 => ⟨S81x2, .f32⟩
  | 42 => ⟨S16x1024x1x2, .i32⟩
  | 43 => ⟨S1x1x25x2, .i32⟩
  | 44 => ⟨S16x1024x25x2, .i32⟩
  | 45 => ⟨S16x1024x25x2, .i32⟩
  | 46 => ⟨S16x1024x25x2, .i32⟩
  | 47 => ⟨S16x1024x25x1, .i32⟩
  | 48 => ⟨S16x1024x25, .i32⟩
  | 49 => ⟨S_, .i32⟩
  | 50 => ⟨S_, .i32⟩
  | 51 => ⟨S_, .i32⟩
  | 52 => ⟨S16x1024x25, .i32⟩
  | 53 => ⟨S16x1024x25, .i32⟩
  | 54 => ⟨S_, .i32⟩
  | 55 => ⟨S16x1024x25, .i32⟩
  | 56 => ⟨S16x1024x25, .i32⟩
  | 57 => ⟨S16x1024x25x1, .i32⟩
  | 58 => ⟨S16x1024x25, .i32⟩
  | 59 => ⟨S_, .i32⟩
  | 60 => ⟨S_, .i32⟩
  | 61 => ⟨S_, .i32⟩
  | 62 => ⟨S16x1024x25, .i32⟩
  | 63 => ⟨S16x1024x25, .i32⟩
  | 64 => ⟨S_, .i32⟩
  | 65 => ⟨S16x1024x25, .i32⟩
  | 66 => ⟨S16x1024x25, .i32⟩
  | 67 => ⟨S16x1024x25x1, .i32⟩
  | 68 => ⟨S16x1024x25x1, .i32⟩
  | 69 => ⟨S16x1024x25x2, .i32⟩
  | 70 => ⟨S16384x25x2, .i32⟩
  | 71 => ⟨S16384, .i32⟩
  | 72 => ⟨S_, .f32⟩
  | 73 => ⟨S16384x32x32, .f32⟩
  | 74 => ⟨S16384x1, .i32⟩
  | 75 => ⟨S16384x25x1, .i32⟩
  | 76 => ⟨S16384x25, .i32⟩
  | 77 => ⟨S16384x25x1, .i32⟩
  | 78 => ⟨S16384x25, .i32⟩
  | 79 => ⟨S_, .i32⟩
  | 80 => ⟨S16384x1, .i32⟩
  | 81 => ⟨S16384x1, .i1⟩
  | 82 => ⟨S_, .i32⟩
  | 83 => ⟨S16384x1, .i32⟩
  | 84 => ⟨S16384x1, .i32⟩
  | 85 => ⟨S16384x1, .i32⟩
  | 86 => ⟨S_, .i32⟩
  | 87 => ⟨S16384x25, .i32⟩
  | 88 => ⟨S16384x25, .i1⟩
  | 89 => ⟨S_, .i32⟩
  | 90 => ⟨S16384x25, .i32⟩
  | 91 => ⟨S16384x25, .i32⟩
  | 92 => ⟨S16384x25, .i32⟩
  | 93 => ⟨S_, .i32⟩
  | 94 => ⟨S16384x25, .i32⟩
  | 95 => ⟨S16384x25, .i1⟩
  | 96 => ⟨S_, .i32⟩
  | 97 => ⟨S16384x25, .i32⟩
  | 98 => ⟨S16384x25, .i32⟩
  | 99 => ⟨S16384x25, .i32⟩
  | 100 => ⟨S16384x25, .i32⟩
  | 101 => ⟨S16384x25x1, .i32⟩
  | 102 => ⟨S16384x25x1, .i32⟩
  | 103 => ⟨S16384x25x1, .i32⟩
  | 104 => ⟨S16384x25x3, .i32⟩
  | 105 => ⟨S_, .f32⟩
  | 106 => ⟨S16384x25, .f32⟩
  | 107 => ⟨S16384x32x32, .f32⟩
  | 108 => ⟨S16384x1024, .f32⟩
  | 109 => ⟨S_, .f32⟩
  | 110 => ⟨S16384, .f32⟩
  | 111 => ⟨S16384x1, .f32⟩
  | 112 => ⟨S16384x32x32, .f32⟩
  | 113 => ⟨S16384x1024, .f32⟩
  | 114 => ⟨S16384x2, .i32⟩
  | 115 => ⟨S16384x1024, .f32⟩
  | 116 => ⟨S_, .f32⟩
  | 117 => ⟨S16384, .f32⟩
  | 118 => ⟨S16384x1, .f32⟩
  | 119 => ⟨S16384x1, .f32⟩
  | 120 => ⟨S1x16x1024x32x32, .i32⟩
  | 121 => ⟨S16x1024x32x32, .i32⟩
  | 122 => ⟨S16384x1024, .i32⟩
  | 123 => ⟨S1x16x1024x32x32, .i32⟩
  | 124 => ⟨S16x1024x32x32, .i32⟩
  | 125 => ⟨S16384x1024, .i32⟩
  | 126 => ⟨S16384x1, .i32⟩
  | 127 => ⟨S16384x1024, .i32⟩
  | _ => ⟨S16x1024x32x32, .f32⟩

abbrev hbmTy0_1 (i : Nat) : BufTy := match i % 128 with
  | 0 => ⟨S16384x1024, .i32⟩
  | 1 => ⟨S16384x1024, .i32⟩
  | 2 => ⟨S16384x1, .i32⟩
  | 3 => ⟨S16384x1024, .i32⟩
  | 4 => ⟨S16384x1024, .i32⟩
  | 5 => ⟨S16384x1024, .i32⟩
  | 6 => ⟨S16384x1024, .i32⟩
  | 7 => ⟨S16384x1024, .f32⟩
  | 8 => ⟨S16384x1024, .f32⟩
  | 9 => ⟨S16384x1x1, .f32⟩
  | 10 => ⟨S16384x32x32, .f32⟩
  | 11 => ⟨S16384x32x32, .i1⟩
  | 12 => ⟨S16384x1, .i32⟩
  | 13 => ⟨S16384, .i32⟩
  | 14 => ⟨S16384x1, .i32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x1, .i32⟩
  | 39 => ⟨S16384x1, .i32⟩
  | 40 => ⟨S16384x3, .i32⟩
  | 41 => ⟨S_, .i1⟩
  | 42 => ⟨S16384, .i1⟩
  | 43 => ⟨S16384x32x32, .i1⟩
  | 44 => ⟨S16384x1024, .i1⟩
  | 45 => ⟨S_, .f32⟩
  | 46 => ⟨S16384x1024, .f32⟩
  | 47 => ⟨S16384x1024, .f32⟩
  | 48 => ⟨S16384x1024, .f32⟩
  | 49 => ⟨S16384x1, .f32⟩
  | 50 => ⟨S16384x1, .i32⟩
  | 51 => ⟨S16384x1, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S_, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S81x2, .f32⟩
  | 67 => ⟨S_, .f32⟩
  | 68 => ⟨S81, .f32⟩
  | 69 => ⟨S81, .f32⟩
  | 70 => ⟨S1x81, .f32⟩
  | 71 => ⟨S16384x81, .f32⟩
  | 72 => ⟨S16384x81, .f32⟩
  | 73 => ⟨S16384x81, .i1⟩
  | 74 => ⟨S16384x81, .f32⟩
  | 75 => ⟨S16384x81x1, .f32⟩
  | 76 => ⟨S1x81x2, .f32⟩
  | 77 => ⟨S16384x81x2, .f32⟩
  | 78 => ⟨S16384x81x2, .f32⟩
  | 79 => ⟨S16384x81x2, .f32⟩
  | 80 => ⟨S16384x81x2, .i32⟩
  | 81 => ⟨S16384x1x2, .i32⟩
  | 82 => ⟨S16384x81x2, .i32⟩
  | 83 => ⟨S16384x81x2, .i32⟩
  | 84 => ⟨S16384x81x1, .i32⟩
  | 85 => ⟨S16384x81, .i32⟩
  | 86 => ⟨S_, .i32⟩
  | 87 => ⟨S_, .i32⟩
  | 88 => ⟨S_, .i32⟩
  | 89 => ⟨S16384x81, .i32⟩
  | 90 => ⟨S16384x81, .i32⟩
  | 91 => ⟨S_, .i32⟩
  | 92 => ⟨S16384x81, .i32⟩
  | 93 => ⟨S16384x81, .i32⟩
  | 94 => ⟨S16384x81x1, .i32⟩
  | 95 => ⟨S16384x81, .i32⟩
  | 96 => ⟨S_, .i32⟩
  | 97 => ⟨S_, .i32⟩
  | 98 => ⟨S_, .i32⟩
  | 99 => ⟨S16384x81, .i32⟩
  | 100 => ⟨S16384x81, .i32⟩
  | 101 => ⟨S_, .i32⟩
  | 102 => ⟨S16384x81, .i32⟩
  | 103 => ⟨S16384x81, .i32⟩
  | 104 => ⟨S16384x81x1, .i32⟩
  | 105 => ⟨S16384x81x1, .i32⟩
  | 106 => ⟨S16384x81x2, .i32⟩
  | 107 => ⟨S_, .f32⟩
  | 108 => ⟨S16384x32x32, .f32⟩
  | 109 => ⟨S16384x1, .i32⟩
  | 110 => ⟨S16384x81x1, .i32⟩
  | 111 => ⟨S16384x81, .i32⟩
  | 112 => ⟨S16384x81x1, .i32⟩
  | 113 => ⟨S16384x81, .i32⟩
  | 114 => ⟨S_, .i32⟩
  | 115 => ⟨S16384x1, .i32⟩
  | 116 => ⟨S16384x1, .i1⟩
  | 117 => ⟨S_, .i32⟩
  | 118 => ⟨S16384x1, .i32⟩
  | 119 => ⟨S16384x1, .i32⟩
  | 120 => ⟨S16384x1, .i32⟩
  | 121 => ⟨S_, .i32⟩
  | 122 => ⟨S16384x81, .i32⟩
  | 123 => ⟨S16384x81, .i1⟩
  | 124 => ⟨S_, .i32⟩
  | 125 => ⟨S16384x81, .i32⟩
  | 126 => ⟨S16384x81, .i32⟩
  | 127 => ⟨S16384x81, .i32⟩
  | _ => ⟨S16x1024x32x32, .f32⟩

abbrev hbmTy0_2 (i : Nat) : BufTy := match i % 128 with
  | 0 => ⟨S_, .i32⟩
  | 1 => ⟨S16384x81, .i32⟩
  | 2 => ⟨S16384x81, .i1⟩
  | 3 => ⟨S_, .i32⟩
  | 4 => ⟨S16384x81, .i32⟩
  | 5 => ⟨S16384x81, .i32⟩
  | 6 => ⟨S16384x81, .i32⟩
  | 7 => ⟨S16384x81, .i32⟩
  | 8 => ⟨S16384x81x1, .i32⟩
  | 9 => ⟨S16384x81x1, .i32⟩
  | 10 => ⟨S16384x81x1, .i32⟩
  | 11 => ⟨S16384x81x3, .i32⟩
  | 12 => ⟨S_, .f32⟩
  | 13 => ⟨S16384x81, .f32⟩
  | 14 => ⟨S16384x32x32, .f32⟩
  | 15 => ⟨S16384x1024, .f32⟩
  | 16 => ⟨S_, .f32⟩
  | 17 => ⟨S16384, .f32⟩
  | 18 => ⟨S16384x1, .f32⟩
  | 19 => ⟨S16384x1024, .f32⟩
  | 20 => ⟨S_, .f32⟩
  | 21 => ⟨S16384, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S_, .f32⟩
  | 36 => ⟨S16384, .f32⟩
  | 37 => ⟨S16384x1, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S16384x1, .f32⟩
  | 44 => ⟨S16x1024, .f32⟩
  | 45 => ⟨S_, .f32⟩
  | 46 => ⟨S16, .f32⟩
  | 47 => ⟨S16x1, .f32⟩
  | 48 => ⟨S_, .f32⟩
  | 49 => ⟨S16x1, .f32⟩
  | 50 => ⟨S16x1, .f32⟩
  | 51 => ⟨S_, .f32⟩
  | 52 => ⟨S16x1, .f32⟩
  | 53 => ⟨S16x1, .f32⟩
  | 54 => ⟨S16x1024, .f32⟩
  | 55 => ⟨S16x1024, .f32⟩
  | 56 => ⟨S16x1x1024, .f32⟩
  | _ => ⟨S16x1024x32x32, .f32⟩

abbrev hbmTy (i : Nat) : BufTy := match i / 128 with
  | 0 => hbmTy0_0 i
  | 1 => hbmTy0_1 i
  | 2 => hbmTy0_2 i
  | _ => ⟨S16x1024x32x32, .f32⟩

abbrev bufTy : (tb : Table) → Fin (tcTables nBuf tb) → BufTy
  | .hbm, ⟨i, _⟩ => hbmTy i
  | _, _ => ⟨S16x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_c_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_c_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_18 : Ref sig .tc := ⟨.hbm, 144, rfl⟩
abbrev main_v111 : Ref sig .tc := ⟨.hbm, 145, rfl⟩
abbrev main_v112 : Ref sig .tc := ⟨.hbm, 146, rfl⟩
abbrev main_c_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_20 : Ref sig .tc := ⟨.hbm, 151, rfl⟩
abbrev main_v116 : Ref sig .tc := ⟨.hbm, 152, rfl⟩
abbrev main_v117 : Ref sig .tc := ⟨.hbm, 153, rfl⟩
abbrev main_c_21 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_22 : Ref sig .tc := ⟨.hbm, 158, rfl⟩
abbrev main_v121 : Ref sig .tc := ⟨.hbm, 159, rfl⟩
abbrev main_v122 : Ref sig .tc := ⟨.hbm, 160, rfl⟩
abbrev main_c_23 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_24 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_25 : Ref sig .tc := ⟨.hbm, 173, rfl⟩
abbrev main_call2_v0 : Ref sig .tc := ⟨.hbm, 174, rfl⟩
abbrev main_v133 : Ref sig .tc := ⟨.hbm, 175, rfl⟩
abbrev main_v134 : Ref sig .tc := ⟨.hbm, 176, rfl⟩
abbrev main_values : Ref sig .tc := ⟨.hbm, 177, rfl⟩
abbrev main_indices : Ref sig .tc := ⟨.hbm, 178, rfl⟩
abbrev main_v135 : Ref sig .tc := ⟨.hbm, 179, rfl⟩
abbrev main_cst_26 : Ref sig .tc := ⟨.hbm, 180, rfl⟩
abbrev main_v136 : Ref sig .tc := ⟨.hbm, 181, rfl⟩
abbrev main_v137 : Ref sig .tc := ⟨.hbm, 182, rfl⟩
abbrev main_cst_27 : Ref sig .tc := ⟨.hbm, 183, rfl⟩
abbrev main_v138 : Ref sig .tc := ⟨.hbm, 184, rfl⟩
abbrev main_v139 : Ref sig .tc := ⟨.hbm, 185, rfl⟩
abbrev main_cst_28 : Ref sig .tc := ⟨.hbm, 186, rfl⟩
abbrev main_cst_29 : Ref sig .tc := ⟨.hbm, 187, rfl⟩
abbrev main_call3_v0 : Ref sig .tc := ⟨.hbm, 188, rfl⟩
abbrev main_call3_v1 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_v140 : Ref sig .tc := ⟨.hbm, 193, rfl⟩
abbrev main_v141 : Ref sig .tc := ⟨.hbm, 194, rfl⟩
abbrev main_cst_30 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_c_31 : Ref sig .tc := ⟨.hbm, 214, rfl⟩
abbrev main_c_32 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_c_33 : Ref sig .tc := ⟨.hbm, 224, rfl⟩
abbrev main_c_34 : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_cst_35 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_c_36 : Ref sig .tc := ⟨.hbm, 242, rfl⟩
abbrev main_v173 : Ref sig .tc := ⟨.hbm, 243, rfl⟩
abbrev main_v174 : Ref sig .tc := ⟨.hbm, 244, rfl⟩
abbrev main_c_37 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_c_38 : Ref sig .tc := ⟨.hbm, 249, rfl⟩
abbrev main_v178 : Ref sig .tc := ⟨.hbm, 250, rfl⟩
abbrev main_v179 : Ref sig .tc := ⟨.hbm, 251, rfl⟩
abbrev main_c_39 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_c_40 : Ref sig .tc := ⟨.hbm, 256, rfl⟩
abbrev main_v183 : Ref sig .tc := ⟨.hbm, 257, rfl⟩
abbrev main_v184 : Ref sig .tc := ⟨.hbm, 258, rfl⟩
abbrev main_c_41 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_cst_42 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_cst_43 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_cst_44 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_cst_45 : Ref sig .tc := ⟨.hbm, 284, rfl⟩
abbrev main_v206 : Ref sig .tc := ⟨.hbm, 285, rfl⟩
abbrev main_v207 : Ref sig .tc := ⟨.hbm, 286, rfl⟩
abbrev main_cst_46 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_47 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_cst_48 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_49 : Ref sig .tc := ⟨.hbm, 301, rfl⟩
abbrev main_v219 : Ref sig .tc := ⟨.hbm, 302, rfl⟩
abbrev main_v220 : Ref sig .tc := ⟨.hbm, 303, rfl⟩
abbrev main_cst_50 : Ref sig .tc := ⟨.hbm, 304, rfl⟩
abbrev main_v221 : Ref sig .tc := ⟨.hbm, 305, rfl⟩
abbrev main_v222 : Ref sig .tc := ⟨.hbm, 306, rfl⟩
abbrev main_cst_51 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩

abbrev nD : Nat := 1
abbrev τ : Topo := Topo.v7x

variable {F : FTy → Type} [FloatOps F]
-- ==== Proof.Disc.lean ====
/- The geometry of the 32 x 32 map: the squared distance of a position from a peak, and how many
   positions lie in a disc of squared radius at most 20 around it, row by row. -/
module

public import Idealize.ShloMosaic.Lib.Pointwise
public import Mathlib.Tactic.Linarith
public import Mathlib.Order.Interval.Finset.Nat
public import Mathlib.Data.Int.Interval

@[expose] public section

namespace Cert.Psrw

/-- The squared distance of map position `j` (row `j / 32`, column `j % 32`) from the peak `(py, px)`. -/
def dsq (py px : ℕ) (j : Fin 1024) : ℕ :=
  (((j.val / 32 : ℕ) : ℤ) - py).natAbs ^ 2 + (((j.val % 32 : ℕ) : ℤ) - px).natAbs ^ 2

/-- How many map positions lie within squared distance `t` of the peak. -/
def discCard (py px t : ℕ) : ℕ := (Finset.univ.filter fun j : Fin 1024 => dsq py px j ≤ t).card

/-- What the row at signed offset `d` from the peak's row contributes to the disc of squared radius `t`. -/
def rowTerm (py px t : ℕ) (d : ℤ) : ℕ :=
  if 0 ≤ (py : ℤ) + d ∧ (py : ℤ) + d ≤ 31 ∧ d ^ 2 ≤ (t : ℤ) then
    min (Nat.sqrt (t - d.natAbs ^ 2)) px + min (Nat.sqrt (t - d.natAbs ^ 2)) (31 - px) + 1 else 0

/-- How many of the 32 columns lie within squared distance `r` of column `px`. -/
theorem card_row (px r : ℕ) (hpx : px < 32) :
    (Finset.univ.filter fun x : Fin 32 => ((x.val : ℤ) - px).natAbs ^ 2 ≤ r).card
      = min (Nat.sqrt r) px + min (Nat.sqrt r) (31 - px) + 1 := by
  have h : ∀ x : ℕ, ((x : ℤ) - px).natAbs ^ 2 ≤ r ↔ px - min (Nat.sqrt r) px ≤ x ∧ x ≤ px + Nat.sqrt r := by
    intro x
    rw [← Nat.le_sqrt']
    omega
  have e : (Finset.univ.filter fun x : Fin 32 => ((x.val : ℤ) - px).natAbs ^ 2 ≤ r).card
      = (Finset.Icc (px - min (Nat.sqrt r) px) (px + min (Nat.sqrt r) (31 - px))).card := by
    refine Finset.card_bij (fun x _ => x.val) ?_ ?_ ?_
    · intro x hx
      have := (h x.val).1 (Finset.mem_filter.1 hx).2
      have := x.isLt
      rw [Finset.mem_Icc]
      omega
    · intro x _ y _ hxy
      exact Fin.ext hxy
    · intro b hb
      rw [Finset.mem_Icc] at hb
      exact ⟨⟨b, by omega⟩, Finset.mem_filter.2 ⟨Finset.mem_univ _, (h b).2 (by omega)⟩, rfl⟩
  rw [e, Nat.card_Icc]
  omega

/-- A sum over the map's positions, row by row. -/
theorem sum_map {M : Type} [AddCommMonoid M] (f : Fin 1024 → M) :
    ∑ j, f j = ∑ y : Fin 32, ∑ x : Fin 32, f ⟨y.val * 32 + x.val, by omega⟩ := by
  rw [← (finProdFinEquiv (m := 32) (n := 32)).sum_comp, Fintype.sum_prod_type]
  refine Finset.sum_congr rfl fun y _ => Finset.sum_congr rfl fun x _ => ?_
  congr 1
  apply Fin.ext
  simp only [finProdFinEquiv_apply_val]
  omega

/-- The squared distance at row `y` and column `x`. -/
theorem dsq_mk (py px : ℕ) (y x : Fin 32) (h : y.val * 32 + x.val < 1024) :
    dsq py px ⟨y.val * 32 + x.val, h⟩ = ((y.val : ℤ) - py).natAbs ^ 2 + ((x.val : ℤ) - px).natAbs ^ 2 := by
  have h1 : (y.val * 32 + x.val) / 32 = y.val := by omega
  have h2 : (y.val * 32 + x.val) % 32 = x.val := by omega
  simp only [dsq, h1, h2]

/-- The disc counted row by row. -/
theorem discCard_rows (py px t : ℕ) : discCard py px t
    = ∑ y : Fin 32, ∑ x : Fin 32, if ((y.val : ℤ) - py).natAbs ^ 2 + ((x.val : ℤ) - px).natAbs ^ 2 ≤ t then 1 else 0 := by
  rw [discCard, Finset.card_filter, sum_map]
  refine Finset.sum_congr rfl fun y _ => Finset.sum_congr rfl fun x _ => ?_
  rw [dsq_mk]

/-- One row of the disc. -/
theorem row_eq (py px t : ℕ) (hpx : px < 32) (y : Fin 32) :
    (∑ x : Fin 32, if ((y.val : ℤ) - py).natAbs ^ 2 + ((x.val : ℤ) - px).natAbs ^ 2 ≤ t then 1 else 0)
      = rowTerm py px t ((y.val : ℤ) - py) := by
  rw [← Finset.card_filter]
  have hy := y.isLt
  unfold rowTerm
  have hsq : ((((y.val : ℤ) - py).natAbs ^ 2 : ℕ) : ℤ) = ((y.val : ℤ) - py) ^ 2 := by
    push_cast
    exact sq_abs _
  by_cases hd : ((y.val : ℤ) - py) ^ 2 ≤ (t : ℤ)
  · rw [if_pos ⟨by omega, by omega, hd⟩, ← card_row px _ hpx]
    congr 1
    ext x
    simp only [Finset.mem_filter, Finset.mem_univ, true_and]
    omega
  · rw [if_neg (fun h => hd h.2.2), Finset.card_eq_zero, Finset.filter_eq_empty_iff]
    intro x _
    omega

/-- The disc of squared radius at most 20 is the sum of the nine rows around the peak. -/
theorem discCard_eq (py px t : ℕ) (hpy : py < 32) (hpx : px < 32) (ht : t ≤ 20) :
    discCard py px t = rowTerm py px t (-4) + rowTerm py px t (-3) + rowTerm py px t (-2) + rowTerm py px t (-1)
      + rowTerm py px t 0 + rowTerm py px t 1 + rowTerm py px t 2 + rowTerm py px t 3 + rowTerm py px t 4 := by
  rw [discCard_rows]
  have e1 : ∑ y : Fin 32, (∑ x : Fin 32, if ((y.val : ℤ) - py).natAbs ^ 2 + ((x.val : ℤ) - px).natAbs ^ 2 ≤ t then 1 else 0)
      = ∑ d ∈ Finset.univ.image (fun y : Fin 32 => (y.val : ℤ) - py), rowTerm py px t d := by
    rw [Finset.sum_image (fun a _ b _ hab => Fin.ext (by
      have h : (a.val : ℤ) - py = (b.val : ℤ) - py := hab
      omega))]
    exact Finset.sum_congr rfl fun y _ => row_eq py px t hpx y
  have e2 : ∑ d ∈ Finset.univ.image (fun y : Fin 32 => (y.val : ℤ) - py), rowTerm py px t d
      = ∑ d ∈ Finset.Icc (-31 : ℤ) 31, rowTerm py px t d := by
    refine Finset.sum_subset ?_ ?_
    · intro d hd
      obtain ⟨y, _, rfl⟩ := Finset.mem_image.1 hd
      have := y.isLt
      rw [Finset.mem_Icc]
      omega
    · intro d _ hd
      unfold rowTerm
      rw [if_neg]
      rintro ⟨h0, h1, _⟩
      exact hd (Finset.mem_image.2 ⟨⟨((py : ℤ) + d).toNat, by omega⟩, Finset.mem_univ _, by simp only; omega⟩)
  have e3 : ∑ d ∈ Finset.Icc (-4 : ℤ) 4, rowTerm py px t d = ∑ d ∈ Finset.Icc (-31 : ℤ) 31, rowTerm py px t d := by
    refine Finset.sum_subset (Finset.Icc_subset_Icc (by norm_num) (by norm_num)) ?_
    intro d _ hd
    rw [Finset.mem_Icc] at hd
    unfold rowTerm
    rw [if_neg]
    rintro ⟨_, _, h2⟩
    have : (25 : ℤ) ≤ d ^ 2 := by
      rcases (by omega : d ≤ -5 ∨ 5 ≤ d) with h | h <;> nlinarith
    omega
  rw [e1, e2, ← e3]
  have e4 : Finset.Icc (-4 : ℤ) 4 = {-4, -3, -2, -1, 0, 1, 2, 3, 4} := by decide
  rw [e4]
  simp [Finset.sum_insert, add_assoc]

/-- A row holds at most nine positions of a disc of squared radius at most 20. -/
theorem rowTerm_le (py px t : ℕ) (d : ℤ) (ht : t ≤ 20) : rowTerm py px t d ≤ 9 := by
  unfold rowTerm
  split_ifs
  · have h : Nat.sqrt (t - d.natAbs ^ 2) < 5 := Nat.sqrt_lt'.2 (by omega)
    omega
  · omega

/-- Such a disc holds at most 81 positions. -/
theorem discCard_le (py px t : ℕ) (hpy : py < 32) (hpx : px < 32) (ht : t ≤ 20) : discCard py px t ≤ 81 := by
  rw [discCard_eq py px t hpy hpx ht]
  have := fun d => rowTerm_le py px t d ht
  have h1 := this (-4); have h2 := this (-3); have h3 := this (-2); have h4 := this (-1); have h5 := this 0
  have h6 := this 1; have h7 := this 2; have h8 := this 3; have h9 := this 4
  omega

/-- One axis' extent of the 3 x 3 square around `p`, cut at the map's border. -/
theorem card_near (p : ℕ) (hp : p < 32) :
    (Finset.univ.filter fun x : Fin 32 => ((x.val : ℤ) - p).natAbs ≤ 1).card
      = 3 - (if p = 0 then 1 else 0) - (if p = 31 then 1 else 0) := by
  have h : ∀ p : Fin 32, (Finset.univ.filter fun x : Fin 32 => ((x.val : ℤ) - (p.val : ℕ)).natAbs ≤ 1).card
      = 3 - (if p.val = 0 then 1 else 0) - (if p.val = 31 then 1 else 0) := by decide +kernel
  exact h ⟨p, hp⟩

/-- The disc of squared radius 2 is the 3 x 3 square around the peak, cut at the map's border. -/
theorem discCard_two (py px : ℕ) (hpy : py < 32) (hpx : px < 32) :
    discCard py px 2 = (3 - (if py = 0 then 1 else 0) - (if py = 31 then 1 else 0))
      * (3 - (if px = 0 then 1 else 0) - (if px = 31 then 1 else 0)) := by
  have key : ∀ a b : ℕ, a ^ 2 + b ^ 2 ≤ 2 ↔ a ≤ 1 ∧ b ≤ 1 := by
    intro a b
    constructor
    · intro h
      constructor <;> by_contra hc <;> nlinarith
    · rintro ⟨h1, h2⟩
      nlinarith [Nat.pow_le_pow_left h1 2, Nat.pow_le_pow_left h2 2]
  rw [discCard_rows, ← card_near py hpy, ← card_near px hpx, Finset.card_filter, Finset.card_filter, Finset.sum_mul]
  refine Finset.sum_congr rfl fun y _ => ?_
  rw [Finset.mul_sum]
  refine Finset.sum_congr rfl fun x _ => ?_
  simp only [key]
  split_ifs <;> simp_all

/-- Outside the disc lie the other positions of the 1024. -/
theorem card_outside (py px t : ℕ) :
    (Finset.univ.filter fun j : Fin 1024 => t < dsq py px j).card = 1024 - discCard py px t := by
  have h := Finset.card_filter_add_card_filter_not (s := (Finset.univ : Finset (Fin 1024))) (fun j => dsq py px j ≤ t)
  simp only [not_le, Finset.card_univ, Fintype.card_fin] at h
  unfold discCard
  omega

/-- On the map no squared distance exceeds 1922. -/
theorem dsq_le (py px : ℕ) (hpy : py < 32) (hpx : px < 32) (j : Fin 1024) : dsq py px j ≤ 1922 := by
  unfold dsq
  have h1 : (((j.val / 32 : ℕ) : ℤ) - py).natAbs ≤ 31 := by have := j.isLt; omega
  have h2 : (((j.val % 32 : ℕ) : ℤ) - px).natAbs ≤ 31 := by have := j.isLt; omega
  have := Nat.pow_le_pow_left h1 2
  have := Nat.pow_le_pow_left h2 2
  omega

/-- The squared distance over the reals, expanded. -/
theorem dsq_real (py px : ℕ) (j : Fin 1024) :
    ((dsq py px j : ℕ) : ℝ) = (((j.val / 32 : ℕ) : ℝ) - py) ^ 2 + (((j.val % 32 : ℕ) : ℝ) - px) ^ 2 := by
  have h : ((dsq py px j : ℕ) : ℤ) = (((j.val / 32 : ℕ) : ℤ) - py) ^ 2 + (((j.val % 32 : ℕ) : ℤ) - px) ^ 2 := by
    unfold dsq
    push_cast
    rw [sq_abs, sq_abs]
  have h' := congrArg (fun z : ℤ => (z : ℝ)) h
  push_cast at h'
  exact_mod_cast h'

/-- Only the peak's own position is at distance zero. -/
theorem dsq_eq_zero (py px : ℕ) (j : Fin 1024) : dsq py px j = 0 ↔ j.val / 32 = py ∧ j.val % 32 = px := by
  unfold dsq
  rw [Nat.add_eq_zero_iff, pow_eq_zero_iff two_ne_zero, pow_eq_zero_iff two_ne_zero, Int.natAbs_eq_zero, Int.natAbs_eq_zero]
  omega

end Cert.Psrw
-- ==== Proof.Stats.lean ====
/- The side-lobe statistics of one correlation map over the extended reals: the mean and the variance
   of the values outside a disc, and the two ways of writing the variance that the programs use. -/
module

public import proofs.«01_k».proof.Proof.Disc

@[expose] public section

noncomputable section

namespace Cert.Psrw

open Idealize.ShloMosaic

/-- How many positions lie outside the disc, as a real number. -/
def outside (py px t : ℕ) : ℝ := 1024 - (discCard py px t : ℝ)

/-- The sum of the values outside the disc. -/
def sideSum (cv : Fin 1024 → EReal) (py px t : ℕ) : EReal := ∑ j, if t < dsq py px j then cv j else 0

/-- The mean of the values outside the disc. -/
def sideMean (cv : Fin 1024 → EReal) (py px t : ℕ) : EReal := Ideal.div (sideSum cv py px t) (outside py px t : EReal)

/-- The sum of the squared deviations outside the disc. -/
def sideDev (cv : Fin 1024 → EReal) (py px t : ℕ) : EReal :=
  ∑ j, if t < dsq py px j then (cv j - sideMean cv py px t) * (cv j - sideMean cv py px t) else 0

/-- The sum of the squares outside the disc. -/
def sideSq (cv : Fin 1024 → EReal) (py px t : ℕ) : EReal := ∑ j, if t < dsq py px j then cv j * cv j else 0

/-- An infinite summand makes a sum infinite. -/
theorem add_infinite {a : EReal} (b : EReal) (h : a = ⊤ ∨ a = ⊥) : a + b = ⊤ ∨ a + b = ⊥ := by
  rcases h with rfl | rfl
  · induction b
    · right; rfl
    · left; rfl
    · left; rfl
  · right
    exact EReal.bot_add b

/-- The same for a sum over the map. -/
theorem sum_infinite (f : Fin 1024 → EReal) (j : Fin 1024) (h : f j = ⊤ ∨ f j = ⊥) :
    (∑ k, f k) = ⊤ ∨ (∑ k, f k) = ⊥ := by
  rw [← Finset.add_sum_erase _ _ (Finset.mem_univ j)]
  exact add_infinite _ h

/-- A sum of nonnegative terms with a term `⊤` is `⊤`. -/
theorem sum_top (f : Fin 1024 → EReal) (h0 : ∀ k, 0 ≤ f k) (j : Fin 1024) (h : f j = ⊤) : (∑ k, f k) = ⊤ := by
  rw [← Finset.add_sum_erase _ _ (Finset.mem_univ j), h]
  refine EReal.top_add_of_ne_bot ?_
  exact (lt_of_lt_of_le EReal.bot_lt_zero (Finset.sum_nonneg fun k _ => h0 k)).ne'

/-- A product of an extended real with itself is nonnegative. -/
theorem mul_self_nonneg' (x : EReal) : 0 ≤ x * x := by
  induction x
  · rw [EReal.bot_mul_bot]; exact le_top
  · rw [← EReal.coe_mul]; exact_mod_cast mul_self_nonneg _
  · rw [EReal.top_mul_top]; exact le_top

/-- The square of an infinite value is `⊤`. -/
theorem mul_self_infinite {x : EReal} (h : x = ⊤ ∨ x = ⊥) : x * x = ⊤ := by
  rcases h with rfl | rfl
  · exact EReal.top_mul_top
  · exact EReal.bot_mul_bot

/-- A finite sum of real numbers, in the extended reals. -/
theorem coe_sum_map (f : Fin 1024 → ℝ) : (∑ j, ((f j : ℝ) : EReal)) = ((∑ j, f j : ℝ) : EReal) := by
  induction (Finset.univ : Finset (Fin 1024)) using Finset.induction_on with
  | empty => simp
  | insert a s ha ih => rw [Finset.sum_insert ha, Finset.sum_insert ha, ih, EReal.coe_add]

/-- The real identity behind the two variances: over `n` values of sum `s` the squared deviations from the mean
    sum to the sum of squares less `s` times the mean. -/
theorem real_variance (p : Fin 1024 → Prop) [DecidablePred p] (r : Fin 1024 → ℝ) (n : ℝ)
    (hn : n = ((Finset.univ.filter p).card : ℝ)) (h0 : n ≠ 0) (s : ℝ) (hs : s = ∑ j, if p j then r j else 0) :
    (∑ j, if p j then (r j - s * (1 / n)) * (r j - s * (1 / n)) else 0)
      = (∑ j, if p j then r j * r j else 0) - s * (s * (1 / n)) := by
  have e : ∀ j, (if p j then (r j - s * (1 / n)) * (r j - s * (1 / n)) else 0)
      = (if p j then r j * r j else 0) - 2 * (s * (1 / n)) * (if p j then r j else 0)
        + (s * (1 / n)) * (s * (1 / n)) * (if p j then 1 else 0) := by
    intro j
    split_ifs <;> ring
  rw [Finset.sum_congr rfl fun j _ => e j, Finset.sum_add_distrib, Finset.sum_sub_distrib, ← Finset.mul_sum,
    ← Finset.mul_sum, ← hs, Finset.sum_boole, ← hn]
  field_simp
  ring

section

variable (cv : Fin 1024 → EReal) (py px t : ℕ)

/-- The positions outside the disc number `outside`. -/
theorem outside_eq : outside py px t = ((Finset.univ.filter fun j : Fin 1024 => t < dsq py px j).card : ℝ) := by
  have h : discCard py px t ≤ 1024 := by
    unfold discCard
    exact (Finset.card_le_univ _).trans (by simp)
  rw [card_outside, Nat.cast_sub h, outside]
  norm_num

/-- When every value outside the disc is a real number, the two sums agree. -/
theorem dev_of_real (h0 : outside py px t ≠ 0) (hr : ∀ j, t < dsq py px j → cv j ≠ ⊤ ∧ cv j ≠ ⊥) :
    sideDev cv py px t = sideSq cv py px t - sideSum cv py px t * sideMean cv py px t := by
  have e : ∀ j, t < dsq py px j → cv j = (((cv j).toReal : ℝ) : EReal) := fun j hj =>
    (EReal.coe_toReal (hr j hj).1 (hr j hj).2).symm
  have es : sideSum cv py px t = ((∑ j, if t < dsq py px j then (cv j).toReal else 0 : ℝ) : EReal) := by
    rw [← coe_sum_map]
    refine Finset.sum_congr rfl fun j _ => ?_
    split_ifs with hj
    · exact e j hj
    · rfl
  have em : sideMean cv py px t
      = (((∑ j, if t < dsq py px j then (cv j).toReal else 0) * (1 / outside py px t) : ℝ) : EReal) := by
    rw [sideMean, es, Ideal.div_coe h0, EReal.coe_mul]
  have ed : sideDev cv py px t = ((∑ j, if t < dsq py px j then
      ((cv j).toReal - (∑ j, if t < dsq py px j then (cv j).toReal else 0) * (1 / outside py px t))
      * ((cv j).toReal - (∑ j, if t < dsq py px j then (cv j).toReal else 0) * (1 / outside py px t)) else 0 : ℝ) : EReal) := by
    rw [← coe_sum_map, sideDev, em]
    refine Finset.sum_congr rfl fun j _ => ?_
    split_ifs with hj
    · conv_lhs => rw [e j hj]
      rw [← EReal.coe_sub, ← EReal.coe_mul]
    · rfl
  have eq : sideSq cv py px t = ((∑ j, if t < dsq py px j then (cv j).toReal * (cv j).toReal else 0 : ℝ) : EReal) := by
    rw [← coe_sum_map, sideSq]
    refine Finset.sum_congr rfl fun j _ => ?_
    split_ifs with hj
    · rw [EReal.coe_mul, ← e j hj]
    · rfl
  rw [ed, eq, es, em, ← EReal.coe_mul, ← EReal.coe_sub,
    real_variance (fun j => t < dsq py px j) (fun j => (cv j).toReal) _ (outside_eq py px t) h0 _ rfl]

/-- When some value outside the disc is infinite, the sum of the squared deviations is `⊤` and the other form `⊥`. -/
theorem dev_of_infinite (h0 : 0 < outside py px t) (j : Fin 1024) (hj : t < dsq py px j) (hi : cv j = ⊤ ∨ cv j = ⊥) :
    sideDev cv py px t = ⊤ ∧ sideSq cv py px t - sideSum cv py px t * sideMean cv py px t = ⊥ := by
  have hs : sideSum cv py px t = ⊤ ∨ sideSum cv py px t = ⊥ :=
    sum_infinite _ j (by simp only [if_pos hj]; exact hi)
  have hpos : 0 < 1 / outside py px t := by positivity
  have hm : sideMean cv py px t = sideSum cv py px t := by
    rw [sideMean, Ideal.div_coe h0.ne']
    rcases hs with h | h <;> rw [h]
    · exact EReal.top_mul_coe_of_pos hpos
    · exact EReal.bot_mul_coe_of_pos hpos
  have hd : sideDev cv py px t = ⊤ := by
    refine sum_top _ (fun k => ?_) j ?_
    · split_ifs
      · exact mul_self_nonneg' _
      · exact le_rfl
    · rw [if_pos hj]
      refine mul_self_infinite ?_
      rw [hm, sub_eq_add_neg]
      exact add_infinite _ hi
  have hq : sideSq cv py px t = ⊤ := by
    refine sum_top _ (fun k => ?_) j ?_
    · split_ifs
      · exact mul_self_nonneg' _
      · exact le_rfl
    · rw [if_pos hj]
      exact mul_self_infinite hi
  refine ⟨hd, ?_⟩
  rw [hq, hm, mul_self_infinite hs]
  rfl

/-- The ratio of the peak's height over the side lobe to its spread does not depend on which form of the variance is
    taken: where the two differ, both quotients are zero. -/
theorem ratio_eq (p w e : EReal) (h2 : 1 < outside py px t) (hw : 0 < w) (he : e ≠ ⊥) :
    Ideal.div p (Ideal.div (sideSq cv py px t - sideSum cv py px t * sideMean cv py px t) ((outside py px t - 1 : ℝ) : EReal) * w + e)
      = Ideal.div p (Ideal.div (sideDev cv py px t) ((outside py px t - 1 : ℝ) : EReal) * w + e) := by
  have h0 : 0 < outside py px t := by linarith
  by_cases hr : ∀ j, t < dsq py px j → cv j ≠ ⊤ ∧ cv j ≠ ⊥
  · rw [dev_of_real cv py px t h0.ne' hr]
  · push Not at hr
    obtain ⟨j, hj, hi⟩ := hr
    have hi' : cv j = ⊤ ∨ cv j = ⊥ := by
      by_cases h : cv j = ⊤
      · exact Or.inl h
      · exact Or.inr (hi h)
    obtain ⟨h1, h3⟩ := dev_of_infinite cv py px t h0 j hj hi'
    have hp : 0 < 1 / (outside py px t - 1) := by
      have : 0 < outside py px t - 1 := by linarith
      positivity
    have hne : outside py px t - 1 ≠ 0 := by linarith
    rw [h1, h3, Ideal.div_coe hne, Ideal.div_coe hne, EReal.bot_mul_coe_of_pos hp, EReal.top_mul_coe_of_pos hp,
      EReal.bot_mul_of_pos hw, EReal.top_mul_of_pos hw, EReal.bot_add, EReal.top_add_of_ne_bot he]
    simp [Ideal.div]

end

end Cert.Psrw

end
-- ==== Proof.Lits.lean ====
/- The values, over the extended reals, of the float words that the programs print, and a decision procedure that
   reads a word holding an integer. -/
module

public import Idealize.ShloMosaic.Lib.Pointwise

@[expose] public section

noncomputable section

namespace Cert.Psrw

open Idealize.ShloMosaic

/-- Whether the word `b` holds the integer `z`, read off its fields: sign, exponent, fraction. -/
def holds (b : BitVec 32) (z : ℤ) : Bool :=
  let ex := (b.extractLsb' 23 8).toNat
  let fr := (b.extractLsb' 0 23).toNat
  (decide (ex = 0) && decide (fr = 0) && decide (z = 0))
    || (decide (127 ≤ ex) && decide (ex ≤ 150) && decide (2 ^ 23 + fr = z.natAbs * 2 ^ (150 - ex))
        && (if b.extractLsb' 31 1 == 1#1 then decide (z < 0) else decide (0 < z)))

/-- A word that holds an integer is read as it. -/
theorem ofBits_of_holds (b : BitVec 32) (z : ℤ) (h : holds b z = true) : Ideal.ofBits .f32 b = ((z : ℝ) : EReal) := by
  simp only [holds, Bool.or_eq_true, Bool.and_eq_true, decide_eq_true_eq] at h
  simp only [Ideal.ofBits, Ideal.ieee]
  rcases h with ⟨⟨h1, h2⟩, h3⟩ | ⟨⟨⟨h1, h2⟩, h3⟩, h4⟩
  · rw [if_neg (by rw [h1]; norm_num), if_pos h1, h2, h3]
    simp
  · rw [if_neg (by omega), if_neg (by omega)]
    congr 1
    rw [h3]
    have e : ((((b.extractLsb' 23 8).toNat : ℕ) : ℤ) - (2 ^ (8 - 1) - 1) - (23 : ℕ)) = -((150 - (b.extractLsb' 23 8).toNat : ℕ) : ℤ) := by
      omega
    rw [e, zpow_neg, zpow_natCast]
    push_cast
    rw [mul_assoc, mul_assoc, mul_inv_cancel₀ (by positivity), mul_one]
    split_ifs at h4 with hs
    · have hz : z < 0 := by simpa using h4
      have hr : ((z.natAbs : ℕ) : ℝ) = -(z : ℝ) := by
        rw [Nat.cast_natAbs, Int.cast_abs, abs_of_neg (by exact_mod_cast hz)]
      rw [if_pos hs]
      linarith
    · have hz : 0 < z := by simpa using h4
      have hr : ((z.natAbs : ℕ) : ℝ) = (z : ℝ) := by
        rw [Nat.cast_natAbs, Int.cast_abs, abs_of_pos (by exact_mod_cast hz)]
      rw [if_neg hs]
      linarith

theorem lit_32 : Ideal.ofBits .f32 1107296256#32 = ((32 : ℝ) : EReal) := by
  simpa using ofBits_of_holds 1107296256#32 32 (by decide)
theorem lit_31 : Ideal.ofBits .f32 1106771968#32 = ((31 : ℝ) : EReal) := by
  simpa using ofBits_of_holds 1106771968#32 31 (by decide)
theorem lit_3 : Ideal.ofBits .f32 1077936128#32 = ((3 : ℝ) : EReal) := by
  simpa using ofBits_of_holds 1077936128#32 3 (by decide)
theorem lit_1024 : Ideal.ofBits .f32 1149239296#32 = ((1024 : ℝ) : EReal) := by
  simpa using ofBits_of_holds 1149239296#32 1024 (by decide)
theorem lit_2 : Ideal.ofBits .f32 1073741824#32 = ((2 : ℝ) : EReal) := by
  simpa using ofBits_of_holds 1073741824#32 2 (by decide)
theorem lit_10000 : Ideal.ofBits .f32 1176256512#32 = ((10000 : ℝ) : EReal) := by
  simpa using ofBits_of_holds 1176256512#32 10000 (by decide)
theorem lit_20 : Ideal.ofBits .f32 1101004800#32 = ((20 : ℝ) : EReal) := by
  simpa using ofBits_of_holds 1101004800#32 20 (by decide)
theorem lit_16 : Ideal.ofBits .f32 1098907648#32 = ((16 : ℝ) : EReal) := by
  simpa using ofBits_of_holds 1098907648#32 16 (by decide)
theorem lit_9 : Ideal.ofBits .f32 1091567616#32 = ((9 : ℝ) : EReal) := by
  simpa using ofBits_of_holds 1091567616#32 9 (by decide)
theorem lit_4 : Ideal.ofBits .f32 1082130432#32 = ((4 : ℝ) : EReal) := by
  simpa using ofBits_of_holds 1082130432#32 4 (by decide)
theorem lit_100 : Ideal.ofBits .f32 1120403456#32 = ((100 : ℝ) : EReal) := by
  simpa using ofBits_of_holds 1120403456#32 100 (by decide)
theorem lit_neg4 : Ideal.ofBits .f32 0xC0800000#32 = ((-4 : ℝ) : EReal) := by
  simpa using ofBits_of_holds 0xC0800000#32 (-4) (by decide)
theorem lit_neg3 : Ideal.ofBits .f32 0xC0400000#32 = ((-3 : ℝ) : EReal) := by
  simpa using ofBits_of_holds 0xC0400000#32 (-3) (by decide)
theorem lit_neg2 : Ideal.ofBits .f32 0xC0000000#32 = ((-2 : ℝ) : EReal) := by
  simpa using ofBits_of_holds 0xC0000000#32 (-2) (by decide)
theorem lit_neg1 : Ideal.ofBits .f32 0xBF800000#32 = ((-1 : ℝ) : EReal) := by
  simpa using ofBits_of_holds 0xBF800000#32 (-1) (by decide)
theorem lit_half : Ideal.ofBits .f32 1056964608#32 = ((1 / 2 : ℝ) : EReal) := by
  simp [Ideal.ofBits, Ideal.ieee, -EReal.coe_mul]; norm_num
theorem lit_thirtysecond : Ideal.ofBits .f32 1023410176#32 = ((1 / 32 : ℝ) : EReal) := by
  simp [Ideal.ofBits, Ideal.ieee, -EReal.coe_mul]; norm_num
theorem lit_1_5 : Ideal.ofBits .f32 0x3FC00000#32 = ((3 / 2 : ℝ) : EReal) := by
  simp [Ideal.ofBits, Ideal.ieee, -EReal.coe_mul]; norm_num
theorem lit_4_5 : Ideal.ofBits .f32 0x40900000#32 = ((9 / 2 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

/-- The small number added to the spread is a real number. -/
theorem lit_eps_ne_bot : Ideal.ofBits .f32 0x24E69595#32 ≠ ⊥ := by
  simp [Ideal.ofBits, Ideal.ieee, -EReal.coe_mul]

end Cert.Psrw

end
-- ==== Proof.Model.lean ====
/- The peak-to-side-lobe ratio of one correlation map, and of one map among its batch entry's 1024: the value that
   the kernel and the reference are both shown to compute. -/
module

public import proofs.«01_k».proof.Proof.Stats
public import proofs.«01_k».proof.Proof.Lits

@[expose] public section

noncomputable section

namespace Cert.Psrw

open Idealize.ShloMosaic

/-- The squared distance a position counts with when the peak's width is sought: its own when its value does not exceed
    the mean outside the small disc and it is not the peak, 10000 otherwise. -/
def lowDist (cv : Fin 1024 → EReal) (py px : ℕ) (j : Fin 1024) : ℕ :=
  if cv j ≤ sideMean cv py px 2 ∧ dsq py px j ≠ 0 then dsq py px j else 10000

/-- The squared width of the peak: the least squared distance of a position that counts. -/
def widthSq (cv : Fin 1024 → EReal) (py px : ℕ) : ℕ :=
  Finset.univ.inf' ⟨0, Finset.mem_univ _⟩ (lowDist cv py px)

/-- The squared radius of the disc that is left out of the side lobe, kept between 2 and 20. -/
def radiusSq (cv : Fin 1024 → EReal) (py px : ℕ) : ℕ := min 20 (max 2 (widthSq cv py px))

/-- The greatest value of the map. -/
def peakValue (cv : Fin 1024 → EReal) : EReal := Finset.univ.fold max ⊥ cv

/-- The ratio of one map. -/
def ratio (cv : Fin 1024 → EReal) (py px : ℕ) : EReal :=
  Ideal.div (peakValue cv - sideMean cv py px (radiusSq cv py px))
    (Ideal.div (sideDev cv py px (radiusSq cv py px)) ((outside py px (radiusSq cv py px) - 1 : ℝ) : EReal)
      * ((Real.sqrt (widthSq cv py px : ℝ) : ℝ) : EReal) + Ideal.ofBits .f32 0x24E69595#32)

/-- The ratio of map `c`, divided by the mean ratio of the 1024 maps. -/
def scaled (r : Fin 1024 → EReal) (c : Fin 1024) : EReal :=
  Ideal.div (r c) (Ideal.div (∑ x, r x) ((1024 : ℝ) : EReal) + Ideal.ofBits .f32 841731191#32)

/-- The least of finitely many naturals, taken over the extended reals. -/
theorem fold_min_nat (f : Fin 1024 → ℕ) :
    Finset.univ.fold min (⊤ : EReal) (fun j => ((f j : ℝ) : EReal))
      = (((Finset.univ.inf' ⟨0, Finset.mem_univ _⟩ f : ℕ) : ℝ) : EReal) := by
  refine le_antisymm ?_ ?_
  · obtain ⟨j, hj, e⟩ := Finset.exists_mem_eq_inf' (s := (Finset.univ : Finset (Fin 1024))) ⟨0, Finset.mem_univ _⟩ f
    rw [e]
    exact (Finset.fold_min_le _).2 (Or.inr ⟨j, hj, le_rfl⟩)
  · refine (Finset.le_fold_min _).2 ⟨le_top, fun j hj => ?_⟩
    exact_mod_cast Finset.inf'_le f hj

section

variable (cv : Fin 1024 → EReal) (py px : ℕ)

theorem radiusSq_le : radiusSq cv py px ≤ 20 := min_le_left _ _

theorem lowDist_pos (j : Fin 1024) : 0 < lowDist cv py px j := by
  unfold lowDist
  split_ifs with h
  · exact Nat.pos_of_ne_zero h.2
  · norm_num

theorem widthSq_pos : 0 < widthSq cv py px := by
  obtain ⟨j, _, e⟩ := Finset.exists_mem_eq_inf' (s := (Finset.univ : Finset (Fin 1024))) ⟨0, Finset.mem_univ _⟩ (lowDist cv py px)
  rw [widthSq, e]
  exact lowDist_pos cv py px j

/-- The peak's width is positive. -/
theorem width_pos : (0 : EReal) < ((Real.sqrt (widthSq cv py px : ℝ) : ℝ) : EReal) := by
  have h : (0 : ℝ) < (widthSq cv py px : ℝ) := by exact_mod_cast widthSq_pos cv py px
  exact_mod_cast Real.sqrt_pos.2 h

/-- More than one position lies outside the disc that is left out. -/
theorem one_lt_outside (hpy : py < 32) (hpx : px < 32) : 1 < outside py px (radiusSq cv py px) := by
  have h := discCard_le py px _ hpy hpx (radiusSq_le cv py px)
  have h' : (discCard py px (radiusSq cv py px) : ℝ) ≤ 81 := by exact_mod_cast h
  unfold outside
  linarith

/-- The ratio with the variance written as the sum of squares less the sum times the mean. -/
theorem ratio_alt (hpy : py < 32) (hpx : px < 32) :
    Ideal.div (peakValue cv - sideMean cv py px (radiusSq cv py px))
      (Ideal.div (sideSq cv py px (radiusSq cv py px) - sideSum cv py px (radiusSq cv py px) * sideMean cv py px (radiusSq cv py px))
          ((outside py px (radiusSq cv py px) - 1 : ℝ) : EReal)
        * ((Real.sqrt (widthSq cv py px : ℝ) : ℝ) : EReal) + Ideal.ofBits .f32 0x24E69595#32) = ratio cv py px :=
  ratio_eq cv py px _ _ _ _ (one_lt_outside cv py px hpy hpx) (width_pos cv py px) lit_eps_ne_bot

end

end Cert.Psrw

end
-- ==== Proof.Maps.lean ====
/- The correlation maps and the peaks by batch entry and map, and the result that kernel and reference both compute. -/
module

public import proofs.«01_k».proof.Proof.Model

@[expose] public section

noncomputable section

namespace Cert.Psrw

open Idealize.ShloMosaic

/-- The shape of the maps. -/
abbrev Maps : Shape := ⟨4, ![16, 1024, 32, 32]⟩

/-- The shape of the peaks. -/
abbrev Peaks : Shape := ⟨3, ![16, 1024, 2]⟩

/-- The correlation map `l` of batch entry `b`, by position. -/
def mapOf (A : Maps.Idx → EReal) (b : Fin 16) (l : Fin 1024) (j : Fin 1024) : EReal :=
  A (ix4 b l ⟨j.val / 32, by omega⟩ ⟨j.val % 32, by omega⟩)

/-- Coordinate `a` of map `l`'s peak in batch entry `b`, as a natural. -/
def coordOf (P : Peaks.Idx → BitVec 32) (b : Fin 16) (l : Fin 1024) (a : Fin 2) : ℕ := (P (ix3 b l a)).toInt.toNat

/-- Every peak lies on the map. -/
def OnMap (P : Peaks.Idx → BitVec 32) : Prop := ∀ b l a, 0 ≤ (P (ix3 b l a)).toInt ∧ (P (ix3 b l a)).toInt < 32

theorem OnMap.lt {P : Peaks.Idx → BitVec 32} (h : OnMap P) (b : Fin 16) (l : Fin 1024) (a : Fin 2) : coordOf P b l a < 32 := by
  have := h b l a
  unfold coordOf
  omega

theorem OnMap.eq {P : Peaks.Idx → BitVec 32} (h : OnMap P) (b : Fin 16) (l : Fin 1024) (a : Fin 2) :
    (P (ix3 b l a)).toInt = (coordOf P b l a : ℤ) := by
  have := h b l a
  unfold coordOf
  omega

/-- The value that kernel and reference both compute, at batch entry `b` and map `l`. -/
def result (A : Maps.Idx → EReal) (P : Peaks.Idx → BitVec 32) (b : Fin 16) (l : Fin 1024) : EReal :=
  scaled (fun x => ratio (mapOf A b x) (coordOf P b x 0) (coordOf P b x 1)) l

end Cert.Psrw

end
-- ==== Proof.Words.lean ====
/- Facts on 32-bit words that the reference's index arithmetic needs: sums and products of small integers, a coordinate
   kept between 0 and 31, an index that is not negative, a mask times an integer. -/
module

public import Idealize.ShloMosaic.Lib.Pointwise
public import Idealize.ShloMosaic.Lib.WordCmp

@[expose] public section

noncomputable section

namespace Cert.Psrw

open Idealize.ShloMosaic

/-- A coordinate kept on the map. -/
def clip (z : ℤ) : ℤ := min 31 (max 0 z)

theorem toInt_small (n : ℕ) (h : n < 2 ^ 31) : (BitVec.ofNat 32 n).toInt = (n : ℤ) :=
  WordCmp.toInt_ofNat_of_lt h

theorem toInt_addi (v w : BitVec 32) (a b : ℤ) (hv : v.toInt = a) (hw : w.toInt = b) (h : -2 ^ 31 ≤ a + b) (h' : a + b < 2 ^ 31) :
    (IntOp.addi v w).toInt = a + b := by
  show (v + w).toInt = _
  rw [BitVec.toInt_add, hv, hw]
  exact Int.bmod_eq_of_le (by omega) (by omega)

theorem toInt_subi (v w : BitVec 32) (a b : ℤ) (hv : v.toInt = a) (hw : w.toInt = b) (h : -2 ^ 31 ≤ a - b) (h' : a - b < 2 ^ 31) :
    (IntOp.subi v w).toInt = a - b := by
  show (v - w).toInt = _
  rw [BitVec.toInt_sub, hv, hw]
  exact Int.bmod_eq_of_le (by omega) (by omega)

theorem toInt_muli (v w : BitVec 32) (a b : ℤ) (hv : v.toInt = a) (hw : w.toInt = b) (h : -2 ^ 31 ≤ a * b) (h' : a * b < 2 ^ 31) :
    (IntOp.muli v w).toInt = a * b := by
  show (v * w).toInt = _
  rw [BitVec.toInt_mul, hv, hw]
  exact Int.bmod_eq_of_le (by omega) (by omega)

/-- A coordinate plus an offset, kept between 0 and 31. -/
theorem toInt_clip (v : BitVec 32) (z : ℤ) (hv : v.toInt = z) :
    (IntOp.minsi 31#32 (IntOp.maxsi 0#32 v)).toInt = clip z := by
  have h0 : (0#32).toInt = 0 := rfl
  have h31 : (31#32).toInt = 31 := rfl
  have e : (IntOp.maxsi 0#32 v).toInt = max 0 z := by
    unfold IntOp.maxsi
    rw [BitVec.slt_eq_decide, hv, h0]
    by_cases h : z < 0
    · rw [decide_eq_true h, if_pos rfl, h0]; omega
    · rw [decide_eq_false h, if_neg (by decide), hv]; omega
  unfold IntOp.minsi clip
  rw [BitVec.slt_eq_decide, e, h31]
  by_cases h : 31 < max 0 z
  · rw [decide_eq_true h, if_pos rfl, h31]; omega
  · rw [decide_eq_false h, if_neg (by decide), e]; omega

/-- An index that is not negative is kept as it is. -/
theorem wrap_keep (v a : BitVec 32) (h : 0 ≤ v.toInt) : Scalar.select (IntOp.cmpi .slt v 0#32) a v = v := by
  rw [WordCmp.cmpi_slt_eq, WordCmp.select_decide]
  exact if_neg (not_lt.2 h)

theorem clip_nonneg (z : ℤ) : 0 ≤ clip z := by unfold clip; omega

/-- A truth value times a word. -/
theorem mask_muli (p : Prop) [Decidable p] (v : BitVec 32) (a : ℤ) (hv : v.toInt = a) :
    (IntOp.muli (BitVec.setWidth 32 (BitVec.ofBool (decide p))) v).toInt = if p then a else 0 := by
  by_cases h : p
  · rw [if_pos h, decide_eq_true h, ← hv]
    show (1#32 * v).toInt = _
    rw [BitVec.one_mul]
  · rw [if_neg h, decide_eq_false h]
    show (0#32 * v).toInt = _
    rw [BitVec.zero_mul]
    rfl

/-- A truth value times the float of a word, turned back into a word. -/
theorem mask_fptosi (p : Prop) [Decidable p] (v : BitVec 32) :
    (FloatOps.fptosi (F := Ideal) (φ := .f32) 32
      (FloatOps.uitofp (F := Ideal) .f32 (BitVec.ofBool (decide p)) * FloatOps.sitofp (F := Ideal) .f32 v : EReal)) = if p then v else 0#32 := by
  by_cases h : p
  · rw [if_pos h, decide_eq_true h]
    have e : (FloatOps.uitofp (F := Ideal) .f32 (BitVec.ofBool true) * FloatOps.sitofp (F := Ideal) .f32 v : EReal)
        = (((v.toInt : ℤ) : ℝ) : EReal) := by
      show (((1 : ℕ) : ℝ) : EReal) * (((v.toInt : ℤ) : ℝ) : EReal) = _
      rw [Nat.cast_one, EReal.coe_one, one_mul]
    rw [e]
    have l := BitVec.le_toInt v
    have l' := BitVec.toInt_lt (x := v)
    show BitVec.ofInt 32 _ = _
    rw [Ideal.toIntClamped_coe, Int.floor_intCast, Int.ceil_intCast, ite_self]
    have e' : max (-((2 ^ (32 - 1) : ℕ) : ℤ)) (min (((2 ^ (32 - 1) : ℕ) : ℤ) - 1) v.toInt) = v.toInt := by
      norm_num at l l' ⊢
      omega
    rw [e', BitVec.ofInt_toInt]
  · rw [if_neg h, decide_eq_false h]
    have e : (FloatOps.uitofp (F := Ideal) .f32 (BitVec.ofBool false) * FloatOps.sitofp (F := Ideal) .f32 v : EReal)
        = 0 := by
      show (((0 : ℕ) : ℝ) : EReal) * (((v.toInt : ℤ) : ℝ) : EReal) = _
      rw [Nat.cast_zero, EReal.coe_zero, zero_mul]
    rw [e]
    rw [← EReal.coe_zero]
    show BitVec.ofInt 32 _ = _
    rw [Ideal.toIntClamped_coe, if_pos le_rfl, Int.floor_zero]
    rfl

/-- The length of an offset. -/
theorem norm_word (wy wx : BitVec 32) (a b : ℤ) (hy : wy.toInt = a) (hx : wx.toInt = b) :
    Ideal.sqrt (FloatOps.sitofp (F := Ideal) .f32 wy * FloatOps.sitofp (F := Ideal) .f32 wy
        + FloatOps.sitofp (F := Ideal) .f32 wx * FloatOps.sitofp (F := Ideal) .f32 wx : EReal)
      = ((Real.sqrt ((a ^ 2 + b ^ 2 : ℤ) : ℝ) : ℝ) : EReal) := by
  show Ideal.sqrt ((((wy.toInt : ℤ) : ℝ) : EReal) * (((wy.toInt : ℤ) : ℝ) : EReal)
    + (((wx.toInt : ℤ) : ℝ) : EReal) * (((wx.toInt : ℤ) : ℝ) : EReal)) = _
  rw [hy, hx, ← EReal.coe_mul, ← EReal.coe_mul, ← EReal.coe_add, Ideal.sqrt_coe, if_neg (not_lt.2 (add_nonneg (mul_self_nonneg _) (mul_self_nonneg _)))]
  congr 2
  push_cast
  ring

end Cert.Psrw

end
-- ==== Proof.Cover.lean ====
/- Which positions a list of clipped offsets reaches: those within the squared radius of the peak, no other. -/
module

public import proofs.«01_k».proof.Proof.Disc
public import proofs.«01_k».proof.Proof.Words

@[expose] public section

namespace Cert.Psrw

/-- An offset's coordinate `c` when the offset `(a, b)` lies within squared radius `t`, and 0 otherwise. -/
def kept (t : ℕ) (a b c : ℤ) : ℤ := if a ^ 2 + b ^ 2 ≤ (t : ℤ) then c else 0

theorem dsq_int (py px : ℕ) (j : Fin 1024) :
    ((dsq py px j : ℕ) : ℤ) = (((j.val / 32 : ℕ) : ℤ) - py) ^ 2 + (((j.val % 32 : ℕ) : ℤ) - px) ^ 2 := by
  unfold dsq
  rw [Nat.cast_add, Nat.cast_pow, Nat.cast_pow, Int.natAbs_sq, Int.natAbs_sq]

/-- Keeping a coordinate on the map brings it no farther from one that is on the map. -/
theorem clip_near (p : ℕ) (d : ℤ) (hp : p < 32) : (clip (p + d) - p) ^ 2 ≤ d ^ 2 := by
  rw [sq_le_sq, Int.abs_eq_natAbs, Int.abs_eq_natAbs]
  unfold clip
  omega

/-- The positions that the kept offsets reach are those of the disc. -/
theorem covered_iff {K : ℕ} (oy ox : Fin K → ℤ) (R t py px : ℕ) (hpy : py < 32) (hpx : px < 32) (ht : t < (R + 1) ^ 2)
    (hs : ∀ a b : ℤ, -R ≤ a → a ≤ R → -R ≤ b → b ≤ R → ∃ k, oy k = a ∧ ox k = b) (j : Fin 1024) :
    (∃ k, clip (py + kept t (oy k) (ox k) (oy k)) = ((j.val / 32 : ℕ) : ℤ) ∧ clip (px + kept t (oy k) (ox k) (ox k)) = ((j.val % 32 : ℕ) : ℤ))
      ↔ dsq py px j ≤ t := by
  have hj := j.isLt
  constructor
  · rintro ⟨k, hy, hx⟩
    have h1 := clip_near py (kept t (oy k) (ox k) (oy k)) hpy
    have h2 := clip_near px (kept t (oy k) (ox k) (ox k)) hpx
    rw [hy] at h1
    rw [hx] at h2
    have h3 : kept t (oy k) (ox k) (oy k) ^ 2 + kept t (oy k) (ox k) (ox k) ^ 2 ≤ (t : ℤ) := by
      unfold kept
      split_ifs with h
      · exact h
      · simp
    have h4 := dsq_int py px j
    zify
    linarith
  · intro h
    have h4 := dsq_int py px j
    generalize ha : (((j.val / 32 : ℕ) : ℤ) - py) = a at h4
    generalize hb : (((j.val % 32 : ℕ) : ℤ) - px) = b at h4
    have h5 : a ^ 2 + b ^ 2 ≤ (t : ℤ) := by rw [← h4]; exact_mod_cast h
    have h6 : (t : ℤ) < ((R : ℤ) + 1) ^ 2 := by exact_mod_cast ht
    have ha1 := abs_lt_of_sq_lt_sq (a := a) (b := (R : ℤ) + 1) (by nlinarith [sq_nonneg b]) (by positivity)
    have hb1 := abs_lt_of_sq_lt_sq (a := b) (b := (R : ℤ) + 1) (by nlinarith [sq_nonneg a]) (by positivity)
    rw [abs_lt] at ha1 hb1
    obtain ⟨k, hk, hk'⟩ := hs a b (by omega) (by omega) (by omega) (by omega)
    refine ⟨k, ?_, ?_⟩
    · rw [hk, hk', kept, if_pos h5]
      unfold clip
      omega
    · rw [hk, hk', kept, if_pos h5]
      unfold clip
      omega

/-- The 25 offsets reach every offset of at most 2 in each coordinate. -/
theorem offsets25 (a b : ℤ) (h1 : -2 ≤ a) (h2 : a ≤ 2) (h3 : -2 ≤ b) (h4 : b ≤ 2) :
    ∃ k : Fin 25, ((k.val / 5 : ℕ) : ℤ) - 2 = a ∧ ((k.val % 5 : ℕ) : ℤ) - 2 = b :=
  ⟨⟨((a + 2) * 5 + (b + 2)).toNat, by omega⟩, by show ((((a + 2) * 5 + (b + 2)).toNat / 5 : ℕ) : ℤ) - 2 = a; omega,
    by show ((((a + 2) * 5 + (b + 2)).toNat % 5 : ℕ) : ℤ) - 2 = b; omega⟩

/-- The 81 offsets reach every offset of at most 4 in each coordinate. -/
theorem offsets81 (a b : ℤ) (h1 : -4 ≤ a) (h2 : a ≤ 4) (h3 : -4 ≤ b) (h4 : b ≤ 4) :
    ∃ k : Fin 81, ((k.val / 9 : ℕ) : ℤ) - 4 = a ∧ ((k.val % 9 : ℕ) : ℤ) - 4 = b :=
  ⟨⟨((a + 4) * 9 + (b + 4)).toNat, by omega⟩, by show ((((a + 4) * 9 + (b + 4)).toNat / 9 : ℕ) : ℤ) - 4 = a; omega,
    by show ((((a + 4) * 9 + (b + 4)).toNat % 9 : ℕ) : ℤ) - 4 = b; omega⟩

end Cert.Psrw
-- ==== Proof.Scatter.lean ====
/- Where an update of the reference's three scatters lands: at the position its index words name. -/
module

public import Idealize.ShloMosaic.Lib.Pointwise
public import Idealize.ShloMosaic.Lib.Routing.OpsSet
public import proofs.«01_k».proof.Proof.Gen.ReferenceIdeal.Read

@[expose] public section

set_option maxRecDepth 16384

noncomputable section

namespace Cert.Psrw

open Idealize.ShloMosaic Idealize.ShloMosaic.Routing Cert.ReferenceIdeal Cert.ReferenceIdeal.Value

/-- An update with three index words and no window lands at the position that the words name. -/
theorem lands_of_start {si u : Shape} (d : ScatterDims S16384x32x32 si u) (idx : IVec si 32) (j : u.Idx) (r : Fin 16384) (y x : Fin 32)
    (i0 i1 i2 : si.Idx) (hw : ∀ a, d.window j a = 0) (h0 : d.start j idx 0 = (idx i0).toInt) (h1 : d.start j idx 1 = (idx i1).toInt)
    (h2 : d.start j idx 2 = (idx i2).toInt) :
    d.resultIdx? j idx = some (ix3 r y x)
      ↔ (idx i0).toInt = (r.val : ℤ) ∧ (idx i1).toInt = (y.val : ℤ) ∧ (idx i2).toInt = (x.val : ℤ) := by
  rw [resultIdx?_eq_some, ← h0, ← h1, ← h2]
  constructor
  · intro h
    have e0 := h 0
    have e1 := h 1
    have e2 := h 2
    rw [hw] at e0 e1 e2
    exact ⟨(add_zero _).symm.trans e0, (add_zero _).symm.trans e1, (add_zero _).symm.trans e2⟩
  · rintro ⟨e0, e1, e2⟩ a
    rw [hw]
    fin_cases a
    · exact (add_zero _).trans e0
    · exact (add_zero _).trans e1
    · exact (add_zero _).trans e2

/-- Where an update of the first scatter lands. -/
theorem lands25 (idx : IVec S16384x25x3 32) (r : Fin 16384) (k : Fin 25) (r' : Fin 16384) (y x : Fin 32) :
    scatter_S16384x32x32_S16384x25x3_S16384x25_n_012_012_2.resultIdx? (ix2 r k) idx = some (ix3 r' y x)
      ↔ (idx (ix3 r k 0)).toInt = (r'.val : ℤ) ∧ (idx (ix3 r k 1)).toInt = (y.val : ℤ) ∧ (idx (ix3 r k 2)).toInt = (x.val : ℤ) := by
  refine lands_of_start _ _ _ _ _ _ (ix3 r k 0) (ix3 r k 1) (ix3 r k 2) (fun a => by fin_cases a <;> rfl) ?_ ?_ ?_
  · exact congrArg (fun i => (idx i).toInt) (show scatter_S16384x32x32_S16384x25x3_S16384x25_n_012_012_2.siIdx (ix2 r k) (0 : Fin 3) = _ from by funext b; fin_cases b <;> rfl)
  · exact congrArg (fun i => (idx i).toInt) (show scatter_S16384x32x32_S16384x25x3_S16384x25_n_012_012_2.siIdx (ix2 r k) (1 : Fin 3) = _ from by funext b; fin_cases b <;> rfl)
  · exact congrArg (fun i => (idx i).toInt) (show scatter_S16384x32x32_S16384x25x3_S16384x25_n_012_012_2.siIdx (ix2 r k) (2 : Fin 3) = _ from by funext b; fin_cases b <;> rfl)

/-- Where an update of the third scatter lands. -/
theorem lands81 (idx : IVec S16384x81x3 32) (r : Fin 16384) (k : Fin 81) (r' : Fin 16384) (y x : Fin 32) :
    scatter_S16384x32x32_S16384x81x3_S16384x81_n_012_012_2.resultIdx? (ix2 r k) idx = some (ix3 r' y x)
      ↔ (idx (ix3 r k 0)).toInt = (r'.val : ℤ) ∧ (idx (ix3 r k 1)).toInt = (y.val : ℤ) ∧ (idx (ix3 r k 2)).toInt = (x.val : ℤ) := by
  refine lands_of_start _ _ _ _ _ _ (ix3 r k 0) (ix3 r k 1) (ix3 r k 2) (fun a => by fin_cases a <;> rfl) ?_ ?_ ?_
  · exact congrArg (fun i => (idx i).toInt) (show scatter_S16384x32x32_S16384x81x3_S16384x81_n_012_012_2.siIdx (ix2 r k) (0 : Fin 3) = _ from by funext b; fin_cases b <;> rfl)
  · exact congrArg (fun i => (idx i).toInt) (show scatter_S16384x32x32_S16384x81x3_S16384x81_n_012_012_2.siIdx (ix2 r k) (1 : Fin 3) = _ from by funext b; fin_cases b <;> rfl)
  · exact congrArg (fun i => (idx i).toInt) (show scatter_S16384x32x32_S16384x81x3_S16384x81_n_012_012_2.siIdx (ix2 r k) (2 : Fin 3) = _ from by funext b; fin_cases b <;> rfl)

/-- Where an update of the second scatter lands. -/
theorem lands1 (idx : IVec S16384x3 32) (r : Fin 16384) (r' : Fin 16384) (y x : Fin 32) :
    scatter_S16384x32x32_S16384x3_S16384_n_012_012_1.resultIdx? (ix1 r) idx = some (ix3 r' y x)
      ↔ (idx (ix2 r 0)).toInt = (r'.val : ℤ) ∧ (idx (ix2 r 1)).toInt = (y.val : ℤ) ∧ (idx (ix2 r 2)).toInt = (x.val : ℤ) := by
  refine lands_of_start _ _ _ _ _ _ (ix2 r 0) (ix2 r 1) (ix2 r 2) (fun a => by fin_cases a <;> rfl) ?_ ?_ ?_
  · exact congrArg (fun i => (idx i).toInt) (show scatter_S16384x32x32_S16384x3_S16384_n_012_012_1.siIdx (ix1 r) (0 : Fin 3) = _ from by funext b; fin_cases b <;> rfl)
  · exact congrArg (fun i => (idx i).toInt) (show scatter_S16384x32x32_S16384x3_S16384_n_012_012_1.siIdx (ix1 r) (1 : Fin 3) = _ from by funext b; fin_cases b <;> rfl)
  · exact congrArg (fun i => (idx i).toInt) (show scatter_S16384x32x32_S16384x3_S16384_n_012_012_1.siIdx (ix1 r) (2 : Fin 3) = _ from by funext b; fin_cases b <;> rfl)

end Cert.Psrw

end
-- ==== Proof.RefSmall.lean ====
/- The reference's first mask: 1 outside the disc of squared radius 2 around the peak, 0 inside. -/
module

public import proofs.«01_k».proof.Proof.Maps
public import proofs.«01_k».proof.Proof.Cover
public import proofs.«01_k».proof.Proof.Scatter

@[expose] public section

set_option maxRecDepth 16384

noncomputable section

namespace Cert.Psrw

open Idealize.ShloMosaic Idealize.ShloMosaic.Routing Cert.ReferenceIdeal Cert.ReferenceIdeal.Value Cert.ReferenceIdeal.Read

/-- The batch entry of row `r` of the 16384 maps. -/
def rowB (r : Fin 16384) : Fin 16 := ⟨r.val / 1024, by omega⟩

/-- The map of row `r` in its batch entry. -/
def rowL (r : Fin 16384) : Fin 1024 := ⟨r.val % 1024, by omega⟩

/-- The first offsets' rows and columns. -/
def oy25 (k : Fin 25) : ℤ := ((k.val / 5 : ℕ) : ℤ) - 2
def ox25 (k : Fin 25) : ℤ := ((k.val % 5 : ℕ) : ℤ) - 2

/-- A square root of an integer is at most 3/2 when the integer is at most 2. -/
theorem sqrt_le_1_5 (D : ℤ) : ((Real.sqrt (D : ℝ) : ℝ) : EReal) ≤ ((3 / 2 : ℝ) : EReal) ↔ D ≤ 2 := by
  rw [EReal.coe_le_coe_iff, Real.sqrt_le_iff]
  constructor
  · rintro ⟨_, h⟩
    have : (D : ℝ) < 3 := by linarith
    have : D < 3 := by exact_mod_cast this
    omega
  · intro h
    have : (D : ℝ) ≤ 2 := by exact_mod_cast h
    exact ⟨by norm_num, by linarith⟩

/-- A small number less a small number, as a word. -/
theorem offset_word (n r : ℕ) (hn : n < 100) (hr : r < 100) :
    (IntOp.subi (BitVec.ofNat 32 n) (BitVec.ofNat 32 r)).toInt = (n : ℤ) - r :=
  toInt_subi _ _ _ _ (toInt_small n (by omega)) (toInt_small r (by omega)) (by omega) (by omega)

/-- The first offsets, those longer than 3/2 set to zero. -/
theorem v20_word (k : Fin 25) (a : Fin 2) :
    (val_main_v20 (F := Ideal) (ix2 k a)).toInt = kept 2 (oy25 k) (ox25 k) (if a.val < 1 then oy25 k else ox25 k) := by
  pointwise [val_main_v0, val_main_c, val_main_v1, val_main_v2, val_main_v3, val_main_c_0, val_main_v4, val_main_v5, val_main_v6, val_main_v7, val_main_v8, val_main_v9, val_main_v10, val_main_v11, val_main_v12, val_main_cst, val_main_v13, val_main_v14, val_main_cst_1, val_main_v15, val_main_v16, val_main_v17, val_main_v18, val_main_v19, val_main_v20]
  have hy : (IntOp.subi (BitVec.ofNat 32 (k.val / 5)) 2#32).toInt = oy25 k := offset_word _ 2 (by omega) (by omega)
  have hx : (IntOp.subi (BitVec.ofNat 32 (k.val % 5)) 2#32).toInt = ox25 k := offset_word _ 2 (by omega) (by omega)
  rw [mask_muli _ _ (if a.val < 1 then oy25 k else ox25 k) (by split_ifs <;> assumption)]
  simp only [Finset.univ_unique, Finset.sum_singleton]
  rw [norm_word _ _ _ _ hy hx, lit_1_5]
  unfold kept
  exact if_congr (sqrt_le_1_5 _) rfl rfl

/-- The first positions, kept on the map. -/
theorem v46_word (x1 : Peaks.Idx → BitVec 32) (h : OnMap x1) (b : Fin 16) (l : Fin 1024) (k : Fin 25) (a : Fin 2) :
    (val_main_v46 (F := Ideal) x1 (ix4 b l k a)).toInt
      = clip (coordOf x1 b l a + kept 2 (oy25 k) (ox25 k) (if a.val < 1 then oy25 k else ox25 k)) := by
  have key : ∀ a' : Fin 2, (IntOp.minsi 31#32 (IntOp.maxsi 0#32 (IntOp.addi (x1 (ix3 b l a')) (val_main_v20 (F := Ideal) (ix2 k a'))))).toInt
      = clip (coordOf x1 b l a' + kept 2 (oy25 k) (ox25 k) (if a'.val < 1 then oy25 k else ox25 k)) := fun a' => by
    have hb := h.lt b l a'
    have hk : -2 ≤ kept 2 (oy25 k) (ox25 k) (if a'.val < 1 then oy25 k else ox25 k)
        ∧ kept 2 (oy25 k) (ox25 k) (if a'.val < 1 then oy25 k else ox25 k) ≤ 2 := by
      unfold kept oy25 ox25
      split_ifs <;> omega
    exact toInt_clip _ _ (toInt_addi _ _ _ _ (h.eq b l a') (v20_word k a') (by omega) (by omega))
  pointwise [val_main_v33, val_main_v34, val_main_v35, val_main_v36, val_main_v37, val_main_v38, val_main_v39, val_main_c_4, val_main_c_5, val_main_call0_v0, val_main_call0_v1, val_main_call0_v2, val_main_call0_v3, val_main_call0_v4, val_main_v40, val_main_v41, val_main_v42, val_main_c_6, val_main_c_7, val_main_call1_v0, val_main_call1_v1, val_main_call1_v2, val_main_call1_v3, val_main_call1_v4, val_main_v43, val_main_v44, val_main_v45, val_main_v46]
  fin_cases a
  · exact key 0
  · exact key 1

/-- The first scatter's index words. -/
theorem v74_words (x1 : Peaks.Idx → BitVec 32) (h : OnMap x1) (r : Fin 16384) (k : Fin 25) :
    (val_main_v74 (F := Ideal) x1 (ix3 r k 0)).toInt = (r.val : ℤ)
      ∧ (val_main_v74 (F := Ideal) x1 (ix3 r k 1)).toInt = clip (coordOf x1 (rowB r) (rowL r) 0 + kept 2 (oy25 k) (ox25 k) (oy25 k))
      ∧ (val_main_v74 (F := Ideal) x1 (ix3 r k 2)).toInt = clip (coordOf x1 (rowB r) (rowL r) 1 + kept 2 (oy25 k) (ox25 k) (ox25 k)) := by
  have h0 := v46_word x1 h (rowB r) (rowL r) k 0
  have h1 := v46_word x1 h (rowB r) (rowL r) k 1
  have hr := toInt_small r.val (by omega)
  refine ⟨?_, ?_, ?_⟩
  · pointwise [val_main_v47, val_main_v48, val_main_cst_8, val_main_v49, val_main_v50, val_main_v51, val_main_v52, val_main_v53, val_main_v54, val_main_c_9, val_main_v55, val_main_v56, val_main_c_10, val_main_v57, val_main_v58, val_main_v59, val_main_c_11, val_main_v60, val_main_v61, val_main_c_12, val_main_v62, val_main_v63, val_main_v64, val_main_c_13, val_main_v65, val_main_v66, val_main_c_14, val_main_v67, val_main_v68, val_main_v69, val_main_v70, val_main_v71, val_main_v72, val_main_v73, val_main_v74]
    exact (congrArg BitVec.toInt (wrap_keep _ _ (by rw [hr]; omega))).trans hr
  · pointwise [val_main_v47, val_main_v48, val_main_cst_8, val_main_v49, val_main_v50, val_main_v51, val_main_v52, val_main_v53, val_main_v54, val_main_c_9, val_main_v55, val_main_v56, val_main_c_10, val_main_v57, val_main_v58, val_main_v59, val_main_c_11, val_main_v60, val_main_v61, val_main_c_12, val_main_v62, val_main_v63, val_main_v64, val_main_c_13, val_main_v65, val_main_v66, val_main_c_14, val_main_v67, val_main_v68, val_main_v69, val_main_v70, val_main_v71, val_main_v72, val_main_v73, val_main_v74]
    exact (congrArg BitVec.toInt (wrap_keep _ _ (le_of_le_of_eq (clip_nonneg _) h0.symm))).trans h0
  · pointwise [val_main_v47, val_main_v48, val_main_cst_8, val_main_v49, val_main_v50, val_main_v51, val_main_v52, val_main_v53, val_main_v54, val_main_c_9, val_main_v55, val_main_v56, val_main_c_10, val_main_v57, val_main_v58, val_main_v59, val_main_c_11, val_main_v60, val_main_v61, val_main_c_12, val_main_v62, val_main_v63, val_main_v64, val_main_c_13, val_main_v65, val_main_v66, val_main_c_14, val_main_v67, val_main_v68, val_main_v69, val_main_v70, val_main_v71, val_main_v72, val_main_v73, val_main_v74]
    exact (congrArg BitVec.toInt (wrap_keep _ _ (le_of_le_of_eq (clip_nonneg _) h1.symm))).trans h1

/-- The first mask. -/
theorem v77_at (x1 : Peaks.Idx → BitVec 32) (h : OnMap x1) (r : Fin 16384) (j : Fin 1024) :
    val_main_v77 (F := Ideal) x1 (ix2 r j)
      = if 2 < dsq (coordOf x1 (rowB r) (rowL r) 0) (coordOf x1 (rowB r) (rowL r) 1) j then (1 : EReal) else 0 := by
  have hc := covered_iff oy25 ox25 2 2 _ _ (h.lt (rowB r) (rowL r) 0) (h.lt (rowB r) (rowL r) 1) (by norm_num)
    (fun a b h1 h2 h3 h4 => offsets25 a b h1 h2 h3 h4) j
  have hw := fun k => v74_words x1 h r k
  have hread : val_main_v77 (F := Ideal) x1 (ix2 r j)
      = val_main_v76 (F := Ideal) x1 (ix3 r ⟨j.val / 32, by omega⟩ ⟨j.val % 32, by omega⟩) := by
    pointwise [val_main_v77]
  rw [hread, val_main_v76]
  split_ifs with hd
  · rw [scatter_set_miss]
    · pointwise [val_main_v49, val_main_cst_8]
    · intro i hi
      obtain ⟨r', k, rfl⟩ : ∃ (r' : Fin 16384) (k : Fin 25), i = ix2 r' k := ⟨i 0, i 1, eq_ix2 i⟩
      obtain ⟨e0, e1, e2⟩ := (lands25 _ _ _ _ _ _).1 hi
      obtain rfl : r' = r := Fin.ext (by exact_mod_cast ((v74_words x1 h r' k).1.symm.trans e0))
      exact absurd (hc.1 ⟨k, (hw k).2.1.symm.trans e1, (hw k).2.2.symm.trans e2⟩) (not_le.2 hd)
  · obtain ⟨k, hy, hx⟩ := hc.2 (not_lt.1 hd)
    refine scatter_set_hit _ _ _ _ _ _ (fun i _ => ?_) (ix2 r k) ((lands25 _ _ _ _ _ _).2 ⟨(hw k).1, (hw k).2.1.trans hy, (hw k).2.2.trans hx⟩)
    rw [eq_ix2 i]
    pointwise [val_main_v75, val_main_cst_15]

end Cert.Psrw

end
-- ==== Proof.MaskSums.lean ====
/- The side-lobe statistics written with a mask that is 1 outside the disc and 0 inside. -/
module

public import proofs.«01_k».proof.Proof.Stats

@[expose] public section

noncomputable section

namespace Cert.Psrw

open Idealize.ShloMosaic

variable (cv w : Fin 1024 → EReal) (py px t : ℕ)

/-- The mask's sum counts the positions outside the disc. -/
theorem mask_sum (hw : ∀ j, w j = if t < dsq py px j then 1 else 0) : (∑ j, w j) = ((outside py px t : ℝ) : EReal) := by
  rw [outside_eq, ← Finset.sum_boole, ← coe_sum_map]
  refine Finset.sum_congr rfl fun j _ => ?_
  rw [hw]
  split_ifs
  · exact EReal.coe_one.symm
  · exact EReal.coe_zero.symm

/-- The masked values' sum. -/
theorem mask_values (hw : ∀ j, w j = if t < dsq py px j then 1 else 0) : (∑ j, cv j * w j) = sideSum cv py px t := by
  unfold sideSum
  refine Finset.sum_congr rfl fun j _ => ?_
  rw [hw]
  split_ifs
  · exact mul_one _
  · exact mul_zero _

/-- The masked mean. -/
theorem mask_mean (hw : ∀ j, w j = if t < dsq py px j then 1 else 0) :
    Ideal.div (∑ j, cv j * w j) (∑ j, w j) = sideMean cv py px t := by
  rw [mask_values cv w py px t hw, mask_sum w py px t hw, sideMean]

/-- The masked squared deviations' sum. -/
theorem mask_dev (hw : ∀ j, w j = if t < dsq py px j then 1 else 0) (μ : EReal) (hμ : μ = sideMean cv py px t) :
    (∑ j, (cv j - μ) * w j * ((cv j - μ) * w j)) = sideDev cv py px t := by
  unfold sideDev
  refine Finset.sum_congr rfl fun j _ => ?_
  rw [hw, hμ]
  split_ifs
  · rw [mul_one]
  · rw [mul_zero, mul_zero]

end Cert.Psrw

end
-- ==== Proof.TopOne.lean ====
/- The greatest element of a row, as the reference takes it: the first of a stable descending sort. -/
module

public import Idealize.ShloMosaic.Lib.Pointwise
public import Idealize.ShloMosaic.Lib.SortFacts
public import proofs.«01_k».proof.Proof.Gen.ReferenceIdeal.Read

@[expose] public section

set_option maxRecDepth 16384

noncomputable section

namespace Cert.Psrw

open Idealize.ShloMosaic Cert.ReferenceIdeal Cert.ReferenceIdeal.Value

/-- Position `c` of row `r`, reached by changing the column of any position of that row. -/
theorem along_row (r : Fin 16384) (c c' : Fin 1024) : (ix2 r c : S16384x1024.Idx).along (1 : Fin 2) c' = ix2 r c' := by
  funext a
  fin_cases a <;> rfl

/-- What the sort finds first is not less than any element of the row. -/
theorem topOne (x : S16384x1024.Idx → EReal) (h : S16384x1024.Slices (fun _ => 0) S16384x1) (r : Fin 16384) :
    ∃ j : Fin 1024, (Host.topK S16384x1 1 (FloatOps.cmpfTotal (F := Ideal) (φ := .f32) .gt) x h).1 (ix2 r 0) = x (ix2 r j)
      ∧ ∀ j', x (ix2 r j') ≤ x (ix2 r j) := by
  let before : Fin 1024 → Fin 1024 → Bool := fun k k' =>
    FloatOps.cmpfTotal (F := Ideal) (φ := .f32) .gt (x (ix2 r k)) (x (ix2 r k')) == 1#1
  have hb : ∀ a b, before a b = decide (x (ix2 r b) < x (ix2 r a)) := fun a b => by
    show (BitVec.ofBool (decide (x (ix2 r b) < x (ix2 r a))) == 1#1) = _
    cases decide (x (ix2 r b) < x (ix2 r a)) <;> rfl
  have he : (Host.topK S16384x1 1 (FloatOps.cmpfTotal (F := Ideal) (φ := .f32) .gt) x h).1 (ix2 r 0)
      = x (ix2 r (sortedFrom before 0)) := by
    have e : ∀ (g : Fin 1024 → S16384x1024.Idx) (c : Fin 1024), (∀ k, g k = ix2 r k) → c = 0 →
        x (g (sortedFrom (fun k k' => FloatOps.cmpfTotal (F := Ideal) (φ := .f32) .gt (x (g k)) (x (g k')) == 1#1) c))
          = x (ix2 r (sortedFrom before 0)) := by
      intro g c hg hc
      obtain rfl : g = fun k => ix2 r k := funext hg
      rw [hc]
    have hi : ∀ i : S16384x1024.Idx, i = ix2 r 0 → ∀ k : Fin 1024, i.along (1 : Fin 2) k = ix2 r k := by
      rintro i rfl k
      exact along_row r 0 k
    have h1 : 1 < S16384x1024.rank := by decide
    simp only [Host.topK, Host.sort2, dif_pos h1]
    exact e (fun k => Shape.Idx.along _ (1 : Fin 2) k) _ (hi _ (by funext a; fin_cases a <;> exact Fin.ext (Nat.zero_add _))) (Fin.ext rfl)
  refine ⟨sortedFrom before 0, he, fun j' => ?_⟩
  obtain ⟨k, hk⟩ := sortedFrom_surjective before j'
  rcases Nat.eq_zero_or_pos k.val with h0 | h0
  · have : k = 0 := Fin.ext h0
    rw [← hk, this]
  · have := sortedFrom_noInversion before before (fun a b q => ?_) (fun a b q => q) (fun a b c q q' => ?_) 0 k h0
    · rw [hk, hb] at this
      exact not_lt.1 (of_decide_eq_false this)
    · rw [hb] at q ⊢
      exact decide_eq_false (not_lt.2 (of_decide_eq_true q).le)
    · rw [hb] at q q' ⊢
      exact decide_eq_false (not_lt.2 (le_trans (not_lt.1 (of_decide_eq_false q)) (not_lt.1 (of_decide_eq_false q'))))

end Cert.Psrw

end
-- ==== Proof.RefWidth.lean ====
/- The width of each map's peak, as the reference computes it: the square root of the least squared distance of a
   position that counts. -/
module

public import proofs.«01_k».proof.Proof.RefSmall
public import proofs.«01_k».proof.Proof.MaskSums
public import proofs.«01_k».proof.Proof.TopOne

@[expose] public section

set_option maxRecDepth 16384

noncomputable section

namespace Cert.Psrw

open Idealize.ShloMosaic Idealize.ShloMosaic.Routing Cert.ReferenceIdeal Cert.ReferenceIdeal.Value Cert.ReferenceIdeal.Read

/-- The shape of the two coordinate tables. -/
abbrev Mesh : Shape := ⟨5, ![2, 16, 1024, 32, 32]⟩

/-- The first table holds each position's row and the second its column. -/
def IsMesh (M : Mesh.Idx → BitVec 32) : Prop :=
  ∀ b l y x, (M (ix5 0 b l y x)).toInt = ((y.val : ℕ) : ℤ) ∧ (M (ix5 1 b l y x)).toInt = ((x.val : ℕ) : ℤ)

variable (x0 : Maps.Idx → EReal) (x1 : Peaks.Idx → BitVec 32) (x2 : Mesh.Idx → BitVec 32)

/-- The map of row `r`. -/
def rowMap (r : Fin 16384) : Fin 1024 → EReal := mapOf x0 (rowB r) (rowL r)

/-- The peak's row and column in the map of row `r`. -/
def rowY (r : Fin 16384) : ℕ := coordOf x1 (rowB r) (rowL r) 0
def rowX (r : Fin 16384) : ℕ := coordOf x1 (rowB r) (rowL r) 1

/-- The maps, flattened. -/
theorem v81_at (r : Fin 16384) (j : Fin 1024) : val_main_v81 (F := Ideal) x0 (ix2 r j) = rowMap x0 r j := by
  pointwise [val_main_v81, val_main_v80]
  rfl

/-- Division, at an index. -/
theorem divf_at (a b : S16384x1.Idx → EReal) (i : S16384x1.Idx) : Host.divf (F := Ideal) (φ := .f32) a b i = Ideal.div (a i) (b i) := rfl

/-- A sum of products along the rows, at an index. -/
theorem row_sum_at (a b : S16384x1024.Idx → EReal) (r : Fin 16384) :
    broadcastInDim S16384x1 ![0] Gen.bcast_S16384_S16384x1_0
        (Host.reduceAdd (F := Ideal) (φ := .f32) (mulf a b) (constant S_ .f32 0x00000000#32) Gen.reducesTo_S16384x1024_S16384_d1 Gen.h_S_) (ix2 r 0)
      = ∑ j, a (ix2 r j) * b (ix2 r j) := by
  pointwise []

/-- The mean outside the small disc. -/
theorem v86_at (h : OnMap x1) (r : Fin 16384) :
    val_main_v86 (F := Ideal) x0 x1 (ix2 r 0) = sideMean (rowMap x0 r) (rowY x1 r) (rowX x1 r) 2 := by
  have e := mask_mean (rowMap x0 r) (fun j => val_main_v77 (F := Ideal) x1 (ix2 r j)) (rowY x1 r) (rowX x1 r) 2
    (fun j => v77_at x1 h r j)
  simp only [← v81_at] at e
  have q : val_main_v85 (F := Ideal) x0 x1 (ix2 r 0)
      = ∑ j, val_main_v81 (F := Ideal) x0 (ix2 r j) * val_main_v77 (F := Ideal) x1 (ix2 r j) := row_sum_at _ _ r
  have n : val_main_v79 (F := Ideal) x1 (ix2 r 0) = ∑ j, val_main_v77 (F := Ideal) x1 (ix2 r j) := by
    pointwise [val_main_v79, val_main_v78, val_main_cst_16]
  rw [← e, ← q, ← n]
  exact divf_at _ _ _

/-- A squared distance, as the reference computes it from the coordinate tables. -/
theorem sqrt_words (wy wx vy vx : BitVec 32) (y x py px : ℕ) (hy : wy.toInt = (y : ℤ)) (hx : wx.toInt = (x : ℤ))
    (hpy : vy.toInt = (py : ℤ)) (hpx : vx.toInt = (px : ℤ)) (h1 : y < 32) (h2 : x < 32) (h3 : py < 32) (h4 : px < 32) :
    Ideal.sqrt (FloatOps.sitofp (F := Ideal) .f32 (IntOp.addi (IntOp.muli (IntOp.subi wy vy) (IntOp.subi wy vy))
        (IntOp.muli (IntOp.subi wx vx) (IntOp.subi wx vx))))
      = ((Real.sqrt (((y : ℤ) - py) ^ 2 + ((x : ℤ) - px) ^ 2 : ℤ) : ℝ) : EReal) := by
  have b1 : ((y : ℤ) - py) ^ 2 ≤ 31 ^ 2 := sq_le_sq' (by omega) (by omega)
  have b2 : ((x : ℤ) - px) ^ 2 ≤ 31 ^ 2 := sq_le_sq' (by omega) (by omega)
  have p1 := sq_nonneg ((y : ℤ) - py)
  have p2 := sq_nonneg ((x : ℤ) - px)
  have ey := toInt_subi wy vy _ _ hy hpy (by omega) (by omega)
  have ex := toInt_subi wx vx _ _ hx hpx (by omega) (by omega)
  rw [sq] at b1 b2 p1 p2
  have my := toInt_muli _ _ _ _ ey ey (by omega) (by omega)
  have mx := toInt_muli _ _ _ _ ex ex (by omega) (by omega)
  have s := toInt_addi _ _ _ _ my mx (by omega) (by omega)
  show Ideal.sqrt ((((IntOp.addi (IntOp.muli (IntOp.subi wy vy) (IntOp.subi wy vy))
        (IntOp.muli (IntOp.subi wx vx) (IntOp.subi wx vx))).toInt : ℤ) : ℝ) : EReal) = _
  rw [s, sq, sq, Ideal.sqrt_coe, if_neg (not_lt.2 (by exact_mod_cast (add_nonneg p1 p2)))]

/-- The distances. -/
theorem v103_at (h : OnMap x1) (hm : IsMesh x2) (r : Fin 16384) (j : Fin 1024) :
    val_main_v103 (F := Ideal) x1 x2 (ix2 r j) = ((Real.sqrt (dsq (rowY x1 r) (rowX x1 r) j : ℝ) : ℝ) : EReal) := by
  have e := hm (rowB r) (rowL r) ⟨j.val / 32, by omega⟩ ⟨j.val % 32, by omega⟩
  have s := sqrt_words _ _ _ _ _ _ _ _ e.1 e.2 (h.eq (rowB r) (rowL r) 0) (h.eq (rowB r) (rowL r) 1)
    (by show j.val / 32 < 32; omega) (by show j.val % 32 < 32; omega) (h.lt _ _ 0) (h.lt _ _ 1)
  rw [← Int.cast_natCast (R := ℝ) (dsq (rowY x1 r) (rowX x1 r) j), dsq_int]
  pointwise [val_main_v87, val_main_v88, val_main_v89, val_main_v90, val_main_v91, val_main_v92, val_main_v93, val_main_v94, val_main_v95, val_main_v96, val_main_v97, val_main_v98, val_main_v99, val_main_v100, val_main_v101, val_main_v102, val_main_v103, val_main_v82]
  exact s

/-- The second scatter's index words. -/
theorem v129_words (h : OnMap x1) (r : Fin 16384) :
    (val_main_v129 (F := Ideal) x1 (ix2 r 0)).toInt = (r.val : ℤ)
      ∧ (val_main_v129 (F := Ideal) x1 (ix2 r 1)).toInt = (rowY x1 r : ℤ)
      ∧ (val_main_v129 (F := Ideal) x1 (ix2 r 2)).toInt = (rowX x1 r : ℤ) := by
  have h0 := h.eq (rowB r) (rowL r) 0
  have h1 := h.eq (rowB r) (rowL r) 1
  have hr := toInt_small r.val (by omega)
  refine ⟨?_, ?_, ?_⟩
  · pointwise [val_main_v107, val_main_v108, val_main_v109, val_main_v110, val_main_c_18, val_main_v111, val_main_v112, val_main_c_19, val_main_v113, val_main_v114, val_main_v115, val_main_c_20, val_main_v116, val_main_v117, val_main_c_21, val_main_v118, val_main_v119, val_main_v120, val_main_c_22, val_main_v121, val_main_v122, val_main_c_23, val_main_v123, val_main_v124, val_main_v125, val_main_v126, val_main_v127, val_main_v128, val_main_v129, val_main_v82, val_main_v48]
    exact (congrArg BitVec.toInt (wrap_keep _ _ (by rw [hr]; omega))).trans hr
  · pointwise [val_main_v107, val_main_v108, val_main_v109, val_main_v110, val_main_c_18, val_main_v111, val_main_v112, val_main_c_19, val_main_v113, val_main_v114, val_main_v115, val_main_c_20, val_main_v116, val_main_v117, val_main_c_21, val_main_v118, val_main_v119, val_main_v120, val_main_c_22, val_main_v121, val_main_v122, val_main_c_23, val_main_v123, val_main_v124, val_main_v125, val_main_v126, val_main_v127, val_main_v128, val_main_v129, val_main_v82, val_main_v48]
    exact (congrArg BitVec.toInt (wrap_keep _ _ (le_of_le_of_eq (Int.natCast_nonneg _) h0.symm))).trans h0
  · pointwise [val_main_v107, val_main_v108, val_main_v109, val_main_v110, val_main_c_18, val_main_v111, val_main_v112, val_main_c_19, val_main_v113, val_main_v114, val_main_v115, val_main_c_20, val_main_v116, val_main_v117, val_main_c_21, val_main_v118, val_main_v119, val_main_v120, val_main_c_22, val_main_v121, val_main_v122, val_main_c_23, val_main_v123, val_main_v124, val_main_v125, val_main_v126, val_main_v127, val_main_v128, val_main_v129, val_main_v82, val_main_v48]
    exact (congrArg BitVec.toInt (wrap_keep _ _ (le_of_le_of_eq (Int.natCast_nonneg _) h1.symm))).trans h1

/-- Which positions count. -/
theorem v132_at (h : OnMap x1) (r : Fin 16384) (j : Fin 1024) :
    val_main_v132 (F := Ideal) x0 x1 (ix2 r j)
      = BitVec.ofBool (decide (rowMap x0 r j ≤ sideMean (rowMap x0 r) (rowY x1 r) (rowX x1 r) 2 ∧ dsq (rowY x1 r) (rowX x1 r) j ≠ 0)) := by
  have hread : val_main_v132 (F := Ideal) x0 x1 (ix2 r j)
      = val_main_v131 (F := Ideal) x0 x1 (ix3 r ⟨j.val / 32, by omega⟩ ⟨j.val % 32, by omega⟩) := by
    pointwise [val_main_v132]
  rw [hread, val_main_v131]
  by_cases hd : dsq (rowY x1 r) (rowX x1 r) j = 0
  · rw [decide_eq_false (fun q => q.2 hd)]
    obtain ⟨ey, ex⟩ := (dsq_eq_zero _ _ _).1 hd
    have hw := v129_words x1 h r
    refine scatter_set_hit _ _ _ _ _ _ (fun i _ => ?_) (ix1 r) ((lands1 _ _ _ _ _).2 ⟨hw.1, hw.2.1.trans ?_, hw.2.2.trans ?_⟩)
    · rw [eq_ix1 i]
      pointwise [val_main_v130, val_main_c_24]
      rfl
    · exact_mod_cast ey.symm
    · exact_mod_cast ex.symm
  · rw [scatter_set_miss]
    · have e := v86_at x0 x1 h r
      have q : val_main_v106 (F := Ideal) x0 x1 (ix3 r ⟨j.val / 32, by omega⟩ ⟨j.val % 32, by omega⟩)
          = BitVec.ofBool (decide (rowMap x0 r j ≤ val_main_v86 (F := Ideal) x0 x1 (ix2 r 0))) := by
        pointwise [val_main_v104, val_main_v105, val_main_v106, val_main_v80]
        rfl
      rw [q, e]
      exact congrArg BitVec.ofBool (decide_eq_decide.2 ⟨fun p => ⟨p, hd⟩, fun p => p.1⟩)
    · intro i hi
      obtain ⟨r', rfl⟩ : ∃ r' : Fin 16384, i = ix1 r' := ⟨i 0, eq_ix1 i⟩
      obtain ⟨e0, e1, e2⟩ := (lands1 _ _ _ _ _).1 hi
      obtain rfl : r' = r := Fin.ext (by exact_mod_cast ((v129_words x1 h r').1.symm.trans e0))
      have hw := v129_words x1 h r'
      have e1' := hw.2.1.symm.trans e1
      have e2' := hw.2.2.symm.trans e2
      exact hd ((dsq_eq_zero _ _ _).2 ⟨by exact_mod_cast e1'.symm, by exact_mod_cast e2'.symm⟩)

/-- The square root of the squared distance of a position that does not count. -/
theorem sqrt_10000 : Real.sqrt ((10000 : ℕ) : ℝ) = 100 := by
  rw [show ((10000 : ℕ) : ℝ) = 100 ^ 2 by norm_num, Real.sqrt_sq (by norm_num)]

/-- The distances that count, and 100 for the others. -/
theorem v133_at (h : OnMap x1) (hm : IsMesh x2) (r : Fin 16384) (j : Fin 1024) :
    val_main_v133 (F := Ideal) x0 x1 x2 (ix2 r j)
      = ((Real.sqrt (lowDist (rowMap x0 r) (rowY x1 r) (rowX x1 r) j : ℝ) : ℝ) : EReal) := by
  have q : val_main_v133 (F := Ideal) x0 x1 x2 (ix2 r j)
      = Scalar.select (val_main_v132 (F := Ideal) x0 x1 (ix2 r j)) (val_main_v103 (F := Ideal) x1 x2 (ix2 r j))
        (Ideal.ofBits .f32 1120403456#32) := by
    pointwise [val_main_v133, val_main_call2_v0, val_main_cst_25]
  rw [q, v132_at x0 x1 h, v103_at x1 x2 h hm, lit_100, WordCmp.select_decide]
  unfold lowDist
  split_ifs
  · rfl
  · rw [sqrt_10000]

/-- The greatest of the negated distances is the negated width. -/
theorem values_at (h : OnMap x1) (hm : IsMesh x2) (r : Fin 16384) :
    val_main_values (F := Ideal) x0 x1 x2 (ix2 r 0)
      = -((Real.sqrt (widthSq (rowMap x0 r) (rowY x1 r) (rowX x1 r) : ℝ) : ℝ) : EReal) := by
  have hv : ∀ j, val_main_v134 (F := Ideal) x0 x1 x2 (ix2 r j)
      = -((Real.sqrt (lowDist (rowMap x0 r) (rowY x1 r) (rowX x1 r) j : ℝ) : ℝ) : EReal) := fun j => by
    rw [← v133_at x0 x1 x2 h hm]
    pointwise [val_main_v134]
  obtain ⟨j, e, hj⟩ := topOne (val_main_v134 (F := Ideal) x0 x1 x2) Gen.sliceFits_S16384x1024_S16384x1 r
  have q : val_main_values (F := Ideal) x0 x1 x2 (ix2 r 0) = val_main_v134 (F := Ideal) x0 x1 x2 (ix2 r j) := e
  rw [q, hv]
  have hmin : ∀ j', lowDist (rowMap x0 r) (rowY x1 r) (rowX x1 r) j ≤ lowDist (rowMap x0 r) (rowY x1 r) (rowX x1 r) j' := fun j' => by
    have p := hj j'
    rw [hv, hv, EReal.neg_le_neg_iff, EReal.coe_le_coe_iff, Real.sqrt_le_sqrt_iff (Nat.cast_nonneg _)] at p
    exact_mod_cast p
  have ew : widthSq (rowMap x0 r) (rowY x1 r) (rowX x1 r) = lowDist (rowMap x0 r) (rowY x1 r) (rowX x1 r) j :=
    le_antisymm (Finset.inf'_le _ (Finset.mem_univ j)) (Finset.le_inf' _ _ fun j' _ => hmin j')
  rw [ew]

/-- Division by one. -/
theorem div_by_one (x : EReal) : Ideal.div x 1 = x := by
  rw [Ideal.div, if_neg one_ne_zero, inv_one, mul_one]

/-- The width. -/
theorem v139_at (h : OnMap x1) (hm : IsMesh x2) (r : Fin 16384) :
    val_main_v139 (F := Ideal) x0 x1 x2 (ix2 r 0)
      = ((Real.sqrt (widthSq (rowMap x0 r) (rowY x1 r) (rowX x1 r) : ℝ) : ℝ) : EReal) := by
  have e := values_at x0 x1 x2 h hm r
  pointwise [val_main_v135, val_main_cst_26, val_main_v136, val_main_v137, val_main_cst_27, val_main_v138, val_main_v139]
  simp only [Finset.univ_unique, Finset.sum_singleton]
  rw [show (default : Fin 1) = 0 from rfl, e, neg_neg]
  exact div_by_one _

/-- The width, kept between 3/2 and 9/2. -/
theorem v140_at (h : OnMap x1) (hm : IsMesh x2) (r : Fin 16384) :
    val_main_v140 (F := Ideal) x0 x1 x2 (ix2 r 0)
      = min ((9 / 2 : ℝ) : EReal) (max ((3 / 2 : ℝ) : EReal)
        ((Real.sqrt (widthSq (rowMap x0 r) (rowY x1 r) (rowX x1 r) : ℝ) : ℝ) : EReal)) := by
  rw [← v139_at x0 x1 x2 h hm, ← lit_1_5, ← lit_4_5]
  pointwise [val_main_cst_28, val_main_cst_29, val_main_call3_v0, val_main_call3_v1, val_main_call3_v2, val_main_call3_v3, val_main_call3_v4, val_main_v140]
  rfl

end Cert.Psrw

end
-- ==== Proof.Pre.lean ====
/- What the stated input ranges give: every peak coordinate lies on the map, and the mesh holds each position's own
   coordinates. -/
module

public import proofs.«01_k».proof.Pre_setup_ranges
public import proofs.«01_k».proof.Proof.Gen.Pre_setup_ranges
public import proofs.«01_k».proof.Proof.RefWidth
public import Idealize.ShloMosaic.Lib.ReduceAll
public import Idealize.ShloMosaic.Lib.Affine

@[expose] public section

set_option maxRecDepth 16384

noncomputable section

namespace Cert.Psrw

open Idealize.ShloMosaic

variable (x0 : Maps.Idx → EReal) (x1 : Peaks.Idx → BitVec 32) (x2 : Mesh.Idx → BitVec 32)

/-- Two truth values are both true when their conjunction is. -/
theorem both_true {s : Shape} (a b : IVec s 1) (i : s.Idx) (h : andi a b i = 1#1) : a i = 1#1 ∧ b i = 1#1 :=
  IntOp.andi_eq_one.1 h

/-- A conjunction over every entry that holds, holds at each. -/
theorem all_true {s t u : Shape} {axes : List (Fin s.rank)} (x : s.Idx → BitVec 1) (init : u.Idx → BitVec 1) (h : s.ReducesTo axes t)
    (hu : 0 < u.numel) (ht : t = ⟨0, ![]⟩) (j : t.Idx) (e : Host.reduce IntOp.andi x init h hu j = 1#1) (i : s.Idx) : x i = 1#1 := by
  subst ht
  haveI : Subsingleton (Shape.Idx ⟨0, ![]⟩) := ⟨fun _ _ => funext fun a => a.elim0⟩
  exact Host.reduce_andi_all x init h hu j e i

/-- The four conjuncts of the ranges, at an entry. -/
theorem ranges_parts (h : Cert.Pre_setup_ranges.fn (F := Ideal) x0 x1 x2 = fun _ => 1#1) :
    (∀ i : Peaks.Idx, IntOp.cmpi .sge (x1 i) 0#32 = 1#1) ∧ (∀ i : Peaks.Idx, IntOp.cmpi .slt (x1 i) 32#32 = 1#1)
    ∧ (∀ b l y x, IntOp.cmpi .eq (x2 (ix5 0 b l y x)) (BitVec.ofNat 32 y.val) = 1#1)
    ∧ (∀ b l y x, IntOp.cmpi .eq (x2 (ix5 1 b l y x)) (BitVec.ofNat 32 x.val) = 1#1) := by
  have h0 := congrFun h (fun a => a.elim0)
  unfold Cert.Pre_setup_ranges.fn Cert.Pre_setup_ranges.fn_part1 at h0
  obtain ⟨h1, hx⟩ := both_true _ _ _ h0
  obtain ⟨h2, hy⟩ := both_true _ _ _ h1
  obtain ⟨hl, hu⟩ := both_true _ _ _ h2
  refine ⟨fun i => ?_, fun i => ?_, fun b l y x => ?_, fun b l y x => ?_⟩
  · exact all_true _ _ _ _ rfl _ hl i
  · exact all_true _ _ _ _ rfl _ hu i
  · have e := all_true _ _ _ _ rfl _ hy (ix4 b l y x)
    refine Eq.trans ?_ e
    pointwise
  · have e := all_true _ _ _ _ rfl _ hx (ix4 b l y x)
    refine Eq.trans ?_ e
    pointwise

/-- The peaks lie on the map. -/
theorem onMap_of_ranges (h : Cert.Pre_setup_ranges.fn (F := Ideal) x0 x1 x2 = fun _ => 1#1) : OnMap x1 := fun b l a => by
  have h1 := (ranges_parts x0 x1 x2 h).1 (ix3 b l a)
  have h2 := (ranges_parts x0 x1 x2 h).2.1 (ix3 b l a)
  rw [WordCmp.cmpi_sge_eq, WordCmp.ofBool_decide_eq_one_iff] at h1
  rw [WordCmp.cmpi_slt_eq, WordCmp.ofBool_decide_eq_one_iff] at h2
  exact ⟨h1, h2⟩

/-- The mesh holds the coordinates. -/
theorem isMesh_of_ranges (h : Cert.Pre_setup_ranges.fn (F := Ideal) x0 x1 x2 = fun _ => 1#1) : IsMesh x2 := fun b l y x => by
  have h1 := (ranges_parts x0 x1 x2 h).2.2.1 b l y x
  have h2 := (ranges_parts x0 x1 x2 h).2.2.2 b l y x
  rw [WordCmp.cmpi_eq_eq, WordCmp.ofBool_decide_eq_one_iff] at h1 h2
  rw [h1, h2]
  exact ⟨toInt_small _ (by omega), toInt_small _ (by omega)⟩

end Cert.Psrw

end
-- ==== Proof.RowForm.lean ====
/- One row of the disc as the kernel counts it over the extended reals, and the small arithmetic facts beside it:
   comparisons of numbers that are naturals, and the two sums of indicator floats. -/
module

public import proofs.«01_k».proof.Proof.Model

@[expose] public section

noncomputable section

namespace Cert.Psrw

open Idealize.ShloMosaic

/-- A row's count in the kernel's own operations: `yd` the row's index, `x` the peak's column, `tk` the squared radius
    less the squared offset. -/
def rowForm (yd x tk : EReal) : EReal :=
  Scalar.select
    (IntOp.andi
      (IntOp.andi (BitVec.ofBool (decide (0 ≤ yd))) (BitVec.ofBool (decide (yd ≤ Ideal.ofBits .f32 1106771968#32))))
      (BitVec.ofBool (decide (0 ≤ tk))))
    (min (Ideal.liftRound Int.floor (Ideal.sqrt (max tk 0))) x
      + min (Ideal.liftRound Int.floor (Ideal.sqrt (max tk 0))) (Ideal.ofBits .f32 1106771968#32 - x) + 1)
    0

/-- A selection on three conditions joined. -/
theorem select_three (p q r : Prop) [Decidable p] [Decidable q] [Decidable r] (a b : EReal) :
    Scalar.select (IntOp.andi (IntOp.andi (BitVec.ofBool (decide p)) (BitVec.ofBool (decide q))) (BitVec.ofBool (decide r))) a b
      = if p ∧ q ∧ r then a else b := by
  by_cases hp : p <;> by_cases hq : q <;> by_cases hr : r <;> simp [hp, hq, hr, Scalar.select, IntOp.andi]

/-- A selection on two conditions joined. -/
theorem select_two (p q : Prop) [Decidable p] [Decidable q] (a b : EReal) :
    Scalar.select (IntOp.andi (BitVec.ofBool (decide p)) (BitVec.ofBool (decide q))) a b
      = if p ∧ q then a else b := by
  by_cases hp : p <;> by_cases hq : q <;> simp [hp, hq, Scalar.select, IntOp.andi]

/-- The whole part of a natural's square root. -/
theorem floor_sqrt_nat (n : ℕ) :
    Ideal.liftRound Int.floor (Ideal.sqrt (((n : ℕ) : ℝ) : EReal)) = (((Nat.sqrt n : ℕ) : ℝ) : EReal) := by
  rw [Ideal.sqrt_coe, if_neg (not_lt.2 (Nat.cast_nonneg n)), Ideal.liftRound_coe, Real.floor_real_sqrt_eq_nat_sqrt]
  norm_cast

/-- The lesser of two naturals, over the extended reals. -/
theorem min_nat (a b : ℕ) : min (((a : ℕ) : ℝ) : EReal) (((b : ℕ) : ℝ) : EReal) = (((min a b : ℕ) : ℝ) : EReal) := by
  rcases le_total a b with h | h
  · rw [min_eq_left h, min_eq_left (by exact_mod_cast h)]
  · rw [min_eq_right h, min_eq_right (by exact_mod_cast h)]

/-- The greater of two naturals, over the extended reals. -/
theorem max_nat (a b : ℕ) : max (((a : ℕ) : ℝ) : EReal) (((b : ℕ) : ℝ) : EReal) = (((max a b : ℕ) : ℝ) : EReal) := by
  rcases le_total a b with h | h
  · rw [max_eq_right h, max_eq_right (by exact_mod_cast h)]
  · rw [max_eq_left h, max_eq_left (by exact_mod_cast h)]

/-- The kernel's count of a row is the row's share of the disc. -/
theorem rowForm_eq (py px t : ℕ) (d : ℤ) (hpx : px < 32) (yd x tk : EReal)
    (hy : yd = (((py : ℝ) + (d : ℝ) : ℝ) : EReal)) (hx : x = ((px : ℝ) : EReal))
    (ht : tk = (((t : ℝ) - (d : ℝ) ^ 2 : ℝ) : EReal)) :
    rowForm yd x tk = (((rowTerm py px t d : ℕ) : ℝ) : EReal) := by
  rw [rowForm, select_three, rowTerm]
  have c1 : (0 ≤ yd) ↔ 0 ≤ (py : ℤ) + d := by
    rw [hy, ← EReal.coe_zero, EReal.coe_le_coe_iff]
    exact_mod_cast Iff.rfl
  have c2 : (yd ≤ Ideal.ofBits .f32 1106771968#32) ↔ (py : ℤ) + d ≤ 31 := by
    rw [hy, lit_31, EReal.coe_le_coe_iff]
    exact_mod_cast Iff.rfl
  have c3 : (0 ≤ tk) ↔ d ^ 2 ≤ (t : ℤ) := by
    rw [ht, ← EReal.coe_zero, EReal.coe_le_coe_iff, sub_nonneg]
    exact_mod_cast Iff.rfl
  by_cases h : 0 ≤ (py : ℤ) + d ∧ (py : ℤ) + d ≤ 31 ∧ d ^ 2 ≤ (t : ℤ)
  · rw [if_pos h, if_pos ⟨c1.2 h.1, c2.2 h.2.1, c3.2 h.2.2⟩]
    have e : ((t - d.natAbs ^ 2 : ℕ) : ℝ) = (t : ℝ) - (d : ℝ) ^ 2 := by
      have h3 : d.natAbs ^ 2 ≤ t := by
        have : ((d.natAbs ^ 2 : ℕ) : ℤ) ≤ (t : ℤ) := by
          push_cast
          rw [sq_abs]
          exact h.2.2
        exact_mod_cast this
      rw [Nat.cast_sub h3, Nat.cast_pow, Nat.cast_natAbs, Int.cast_abs, sq_abs]
    have e31 : ((31 : ℝ) : EReal) - ((px : ℝ) : EReal) = (((31 - px : ℕ) : ℝ) : EReal) := by
      rw [← EReal.coe_sub, Nat.cast_sub (by omega)]
      norm_num
    rw [max_eq_left (c3.2 h.2.2), ht, ← e, floor_sqrt_nat, hx, lit_31, e31, min_nat, min_nat, ← EReal.coe_add,
      ← EReal.coe_one, ← EReal.coe_add]
    push_cast
    rfl
  · rw [if_neg h, if_neg (fun h' => h ⟨c1.1 h'.1, c2.1 h'.2.1, c3.1 h'.2.2⟩)]
    simp

/-- An indicator bit made a float. -/
theorem indicator (p : Prop) [Decidable p] :
    FloatOps.sitofp (F := Ideal) .f32 (BitVec.setWidth 32 (BitVec.ofBool (decide p))) = (((if p then 1 else 0 : ℕ) : ℝ) : EReal) := by
  show ((((BitVec.setWidth 32 (BitVec.ofBool (decide p))).toInt : ℝ)) : EReal) = _
  by_cases h : p <;> simp [h]

end Cert.Psrw

end
-- ==== Proof.PixTable.lean ====
/- The kernel's constant table: row `j` holds, for the map position `j` (row `y`, column `x`), the numbers
   `-2y`, `-2x`, the two parts of `y² + x²` and twice the number one. -/
module

public import proofs.«01_k».proof.Proof.Lits
public import proofs.«01_k».proof.KernelIdeal

@[expose] public section

namespace Cert.Psrw

open Idealize.ShloMosaic Cert.KernelIdeal

/-- The integer that column `k` of row `j` holds. -/
def pix (j k : ℕ) : ℤ :=
  let y : ℤ := (j / 32 : ℕ)
  let x : ℤ := (j % 32 : ℕ)
  if k = 0 then -2 * y else if k = 1 then -2 * x
  else if k = 2 then (y * y + x * x) / 32 * 32 else if k = 3 then (y * y + x * x) % 32 else 1

/-- Every entry of the table, checked. -/
theorem lit0_holds : ∀ n : Fin 6144, holds (lit0 n) (pix (n.val / 6) (n.val % 6)) = true := by
  decide +kernel

/-- An entry of the table as an extended real. -/
theorem pix_value (n : Fin 6144) (j k : ℕ) (hn : n.val = j * 6 + k) (hk : k < 6) :
    Ideal.ofBits .f32 (lit0 n) = (((pix j k : ℤ) : ℝ) : EReal) := by
  have h := ofBits_of_holds _ _ (lit0_holds n)
  rw [(by omega : n.val / 6 = j), (by omega : n.val % 6 = k)] at h
  exact h

end Cert.Psrw
-- ==== Proof.KernelCells.lean ====
/- What the kernel's body computes at one lane, value by value: the peak's coordinates, the squared distances, the
   counts, the width, the disc's radius, the sums. -/
module

public import proofs.«01_k».proof.Proof.RowForm
public import proofs.«01_k».proof.Proof.PixTable
public import proofs.«01_k».proof.Proof.Gen.KernelIdeal.Skeleton

@[expose] public section

set_option maxRecDepth 16384

noncomputable section

namespace Cert.Psrw

open Idealize.ShloMosaic Cert.KernelIdeal Cert.KernelIdeal.Gen

section

variable (x2 : Vec Ideal S1x2x1024 .i32) (c : Fin 1024) (py px : ℕ)

/-- The peak's row, as a float. -/
theorem pay4_at (hy : (x2 (ix3 0 0 c)).toInt = (py : ℤ)) : k0_pay4 x2 (ix2 0 c) = ((py : ℝ) : EReal) := by
  pointwise [k0_pay4, k0_pay3]
  show (((x2 (ix3 0 0 c)).toInt : ℝ) : EReal) = _
  rw [hy]
  norm_cast

/-- The peak's column, as a float. -/
theorem pay5_at (hx : (x2 (ix3 0 1 c)).toInt = (px : ℤ)) : k0_pay5 x2 (ix2 0 c) = ((px : ℝ) : EReal) := by
  pointwise [k0_pay5, k0_pay3]
  show (((x2 (ix3 0 1 c)).toInt : ℝ) : EReal) = _
  rw [hx]
  norm_cast

/-- The six-term product of the table's row `j` with the peak's column is the squared distance. -/
theorem pay6_at (x1 : Vec Ideal S1024x6 .f32) (j : Fin 1024)
    (h1 : ∀ k : Fin 6, x1 (ix2 j k) = (((pix j.val k.val : ℤ) : ℝ) : EReal))
    (h4 : k0_pay4 x2 (ix2 0 c) = ((py : ℝ) : EReal)) (h5 : k0_pay5 x2 (ix2 0 c) = ((px : ℝ) : EReal)) :
    k0_pay6 x2 x1 (ix2 j c) = (((dsq py px j : ℕ) : ℝ) : EReal) := by
  pointwise [k0_pay6]
  have e0 : pix j.val 0 = -2 * ((j.val / 32 : ℕ) : ℤ) := rfl
  have e1 : pix j.val 1 = -2 * ((j.val % 32 : ℕ) : ℤ) := rfl
  have e23 : pix j.val 2 + pix j.val 3
      = ((j.val / 32 : ℕ) : ℤ) * ((j.val / 32 : ℕ) : ℤ) + ((j.val % 32 : ℕ) : ℤ) * ((j.val % 32 : ℕ) : ℤ) :=
    Int.ediv_mul_add_emod _ _
  have e4 : pix j.val 4 = 1 := rfl
  have e5 : pix j.val 5 = 1 := rfl
  have r23 : ((pix j.val 2 : ℤ) : ℝ) + ((pix j.val 3 : ℤ) : ℝ)
      = ((j.val / 32 : ℕ) : ℝ) * ((j.val / 32 : ℕ) : ℝ) + ((j.val % 32 : ℕ) : ℝ) * ((j.val % 32 : ℕ) : ℝ) := by
    have h := congrArg (fun z : ℤ => (z : ℝ)) e23
    push_cast at h
    exact h
  simp only [Fin.sum_univ_six, h1, lit_32, lit_thirtysecond]
  have u0 : ((0 : Fin 6) : ℕ) = 0 := rfl
  have u1 : ((1 : Fin 6) : ℕ) = 1 := rfl
  have u2 : ((2 : Fin 6) : ℕ) = 2 := rfl
  have u3 : ((3 : Fin 6) : ℕ) = 3 := rfl
  have u4 : ((4 : Fin 6) : ℕ) = 4 := rfl
  have u5 : ((5 : Fin 6) : ℕ) = 5 := rfl
  have z : ∀ (n : ℕ) (h : n < 1), (⟨n, h⟩ : Fin 1) = 0 := fun n h => Subsingleton.elim _ _
  simp only [u0, u1, u2, u3, u4, u5, z, dite_eq_ite, Nat.reduceLT, Nat.reduceSub, ↓reduceIte, h4, h5, e0, e1, e4, e5]
  simp only [← EReal.coe_mul, ← EReal.coe_add, ← EReal.coe_sub, Ideal.liftRound_coe]
  rw [← EReal.coe_one]
  simp only [← EReal.coe_mul, ← EReal.coe_add, ← EReal.coe_sub, dsq_real]
  congr 1
  simp only [Int.cast_mul, Int.cast_neg, Int.cast_ofNat, Int.cast_natCast, Int.cast_one]
  linear_combination r23

/-- Three less the cut of the 3 x 3 square's rows at the map's two borders. -/
theorem pay7_at (h4 : k0_pay4 x2 (ix2 0 c) = ((py : ℝ) : EReal)) : k0_pay7 x2 (ix2 0 c)
    = (((3 - (if py = 0 then 1 else 0 : ℕ) - (if py = 31 then 1 else 0 : ℕ) : ℝ)) : EReal) := by
  pointwise [k0_pay7]
  rw [h4, lit_3, lit_31, indicator, indicator, ← EReal.coe_sub, ← EReal.coe_sub]
  have h0 : (((py : ℝ) : EReal) = 0) ↔ py = 0 := by exact_mod_cast Iff.rfl
  have h31 : (((py : ℝ) : EReal) = ((31 : ℝ) : EReal)) ↔ py = 31 := by
    rw [EReal.coe_eq_coe_iff]
    exact_mod_cast Iff.rfl
  simp only [h0, h31]

/-- The same of the columns, at the first border. -/
theorem pay8_at (h5 : k0_pay5 x2 (ix2 0 c) = ((px : ℝ) : EReal)) : k0_pay8 x2 (ix2 0 c)
    = (((3 - (if px = 0 then 1 else 0 : ℕ) : ℝ)) : EReal) := by
  pointwise [k0_pay8]
  rw [h5, lit_3, indicator, ← EReal.coe_sub]
  have h0 : (((px : ℝ) : EReal) = 0) ↔ px = 0 := by exact_mod_cast Iff.rfl
  simp only [h0]

/-- The same of the columns, at the other border. -/
theorem pay9_at (h5 : k0_pay5 x2 (ix2 0 c) = ((px : ℝ) : EReal)) : k0_pay9 x2 (ix2 0 c)
    = (((if px = 31 then 1 else 0 : ℕ) : ℝ) : EReal) := by
  pointwise [k0_pay9]
  rw [h5, lit_31, indicator]
  have h31 : (((px : ℝ) : EReal) = ((31 : ℝ) : EReal)) ↔ px = 31 := by
    rw [EReal.coe_eq_coe_iff]
    exact_mod_cast Iff.rfl
  simp only [h31]

end

/-- A square root at a lane that holds a natural. -/
theorem sqrt_at (c : Fin 1024) (w : ℕ) (u : FVec Ideal S1x1024 .f32) (h : u (ix2 0 c) = ((w : ℝ) : EReal)) :
    sqrt u (ix2 0 c) = ((Real.sqrt (w : ℝ) : ℝ) : EReal) := by
  pointwise []
  rw [h, Ideal.sqrt_coe, if_neg (not_lt.2 (Nat.cast_nonneg w))]

/-- A natural kept between 2 and 20. -/
theorem clip_at (c : Fin 1024) (w : ℕ) (u : FVec Ideal S1x1024 .f32) (h : u (ix2 0 c) = ((w : ℝ) : EReal)) :
    minimumf (broadcast S1x1024 (Scalar.ofBits .f32 0x41A00000#32 : Ideal .f32))
        (maximumf (broadcast S1x1024 (Scalar.ofBits .f32 0x40000000#32 : Ideal .f32)) u) (ix2 0 c)
      = (((min 20 (max 2 w) : ℕ) : ℝ) : EReal) := by
  pointwise []
  have h2 : Ideal.ofBits .f32 1073741824#32 = (((2 : ℕ) : ℝ) : EReal) := by
    rw [lit_2, Nat.cast_ofNat]
  have h20 : Ideal.ofBits .f32 1101004800#32 = (((20 : ℕ) : ℝ) : EReal) := by
    rw [lit_20, Nat.cast_ofNat]
  rw [h, h2, h20, max_nat, min_nat]

/-- The count of the positions outside the small disc. -/
theorem small_outside (py px : ℕ) (hpy : py < 32) (hpx : px < 32) :
    ((1024 : ℝ) : EReal) - (((3 - (if py = 0 then 1 else 0 : ℕ) - (if py = 31 then 1 else 0 : ℕ) : ℝ)) : EReal)
      * ((((3 - (if px = 0 then 1 else 0 : ℕ) : ℝ)) : EReal) - (((if px = 31 then 1 else 0 : ℕ) : ℝ) : EReal))
      = (outside py px 2 : EReal) := by
  rw [← EReal.coe_sub, ← EReal.coe_mul, ← EReal.coe_sub, outside, discCard_two py px hpy hpx]
  congr 2
  by_cases h0 : py = 0 <;> by_cases h1 : py = 31 <;> by_cases h2 : px = 0 <;> by_cases h3 : px = 31 <;>
    first | omega | (simp [h0, h1, h2, h3]; try norm_num)

section

variable (cv : Fin 1024 → EReal) (c : Fin 1024) (py px : ℕ) (v1 v19 : FVec Ideal S1024x1024 .f32)
  (v30 v36 v40 : FVec Ideal S1x1024 .f32)
  (h1 : ∀ j : Fin 1024, v1 (ix2 j c) = cv j)
  (h19 : ∀ j : Fin 1024, v19 (ix2 j c) = (((dsq py px j : ℕ) : ℝ) : EReal))

/-- A squared distance compared with a natural. -/
theorem lt_nat (t n : ℕ) : ((((t : ℕ) : ℝ) : EReal) < (((n : ℕ) : ℝ) : EReal)) ↔ t < n := by
  rw [EReal.coe_lt_coe_iff, Nat.cast_lt]

include h1 h19 in
/-- The least squared distance of a low position. -/
theorem pay11_at (hn : ((1024 : ℝ) : EReal) - v30 (ix2 0 c) * (v36 (ix2 0 c) - v40 (ix2 0 c)) = (outside py px 2 : EReal)) :
    k0_pay11 v1 v19 v30 v36 v40 (ix2 0 c) = (((widthSq cv py px : ℕ) : ℝ) : EReal) := by
  pointwise [k0_pay11]
  have h2 : Ideal.ofBits .f32 1073741824#32 = (((2 : ℕ) : ℝ) : EReal) := by
    rw [lit_2, Nat.cast_ofNat]
  rw [lit_1024, hn, lit_top, lit_half, lit_10000]
  simp only [h1, h19, h2, lt_nat, select_two]
  rw [widthSq, ← fold_min_nat]
  congr 1
  funext j
  have hh : (((1 / 2 : ℝ) : EReal) < (((dsq py px j : ℕ) : ℝ) : EReal)) ↔ dsq py px j ≠ 0 := by
    rw [EReal.coe_lt_coe_iff]
    constructor
    · intro h h0
      rw [h0] at h
      norm_num at h
    · intro h
      have : (1 : ℝ) ≤ (dsq py px j : ℝ) := by exact_mod_cast Nat.one_le_iff_ne_zero.2 h
      linarith
  rw [lowDist, sideMean, sideSum]
  simp only [hh]
  split_ifs
  · rfl
  · norm_num

/-- The peak's width. -/
theorem pay12_at (w : ℕ) (h : k0_pay11 v1 v19 v30 v36 v40 (ix2 0 c) = ((w : ℝ) : EReal)) :
    k0_pay12 v1 v19 v30 v36 v40 (ix2 0 c) = ((Real.sqrt (w : ℝ) : ℝ) : EReal) := by
  exact sqrt_at c w (k0_pay11 v1 v19 v30 v36 v40) h

/-- The squared radius of the disc. -/
theorem pay13_at (h : k0_pay11 v1 v19 v30 v36 v40 (ix2 0 c) = (((widthSq cv py px : ℕ) : ℝ) : EReal)) :
    k0_pay13 v1 v19 v30 v36 v40 (ix2 0 c) = (((radiusSq cv py px : ℕ) : ℝ) : EReal) := by
  exact clip_at c _ (k0_pay11 v1 v19 v30 v36 v40) h

variable (t : ℕ) (h13 : k0_pay13 v1 v19 v30 v36 v40 (ix2 0 c) = (((t : ℕ) : ℝ) : EReal))

include h1 h19 h13

/-- The map with the disc's positions at zero. -/
theorem pay14_at (j : Fin 1024) : k0_pay14 v1 v19 v30 v36 v40 (ix2 j c) = if t < dsq py px j then cv j else 0 := by
  pointwise [k0_pay14]
  simp only [h13, h19, h1, lt_nat]

/-- The sum over the side lobe. -/
theorem pay15_at : k0_pay15 v1 v19 v30 v36 v40 (ix2 0 c) = sideSum cv py px t := by
  have h := pay14_at cv c py px v1 v19 v30 v36 v40 h1 h19 t h13
  pointwise [k0_pay15]
  unfold sideSum
  simp only [h]

/-- The sum of squares over the side lobe. -/
theorem pay16_at : k0_pay16 v1 v19 v30 v36 v40 (ix2 0 c) = sideSq cv py px t := by
  have h := pay14_at cv c py px v1 v19 v30 v36 v40 h1 h19 t h13
  pointwise [k0_pay16]
  unfold sideSq
  simp only [h]
  refine Finset.sum_congr rfl fun j _ => ?_
  split_ifs
  · rfl
  · exact mul_zero _

end

end Cert.Psrw

end
-- ==== Proof.KernelBlock.lean ====
/- The kernel's count of the disc row by row, and the block that its body stores. -/
module

public import proofs.«01_k».proof.Proof.KernelCells

@[expose] public section

set_option maxRecDepth 16384

noncomputable section

namespace Cert.Psrw

open Idealize.ShloMosaic Cert.KernelIdeal Cert.KernelIdeal.Gen

variable (c : Fin 1024) (v1 v19 : FVec Ideal S1024x1024 .f32)
  (v5 v6 v67 v30 v36 v40 a b : FVec Ideal S1x1024 .f32)

/-- The first row, at offset -4, of a radius given as a vector. -/
theorem first_row_form (u : FVec Ideal S1x1024 .f32) : k0_pay21 v5 v6 k0_pay17 (subf u (broadcast S1x1024 (Scalar.ofBits .f32 0x41800000#32)))
     (floor (sqrt (maximumf (subf u (broadcast S1x1024 (Scalar.ofBits .f32 0x41800000#32))) (broadcast S1x1024 (Scalar.ofBits .f32 0#32)))))
     (minimumf (floor (sqrt (maximumf (subf u (broadcast S1x1024 (Scalar.ofBits .f32 0x41800000#32))) (broadcast S1x1024 (Scalar.ofBits .f32 0#32))))) v6) (ix2 0 c)
   = rowForm (v5 (ix2 0 c) + Ideal.ofBits .f32 0xC0800000#32) (v6 (ix2 0 c)) (u (ix2 0 c) - Ideal.ofBits .f32 0x41800000#32) := by
  pointwise [k0_pay21, k0_pay17, rowForm, zero_add]

/-- The first row as the body computes it. -/
theorem first_row : k0_pay21 v5 v6 k0_pay17 (k0_pay18 v1 v19 v30 v36 v40) (k0_pay19 v1 v19 v30 v36 v40) (k0_pay20 v1 v6 v19 v30 v36 v40) (ix2 0 c)
   = rowForm (v5 (ix2 0 c) + Ideal.ofBits .f32 0xC0800000#32) (v6 (ix2 0 c)) (k0_pay13 v1 v19 v30 v36 v40 (ix2 0 c) - Ideal.ofBits .f32 0x41800000#32) := by
  unfold k0_pay20 k0_pay19 k0_pay18
  exact first_row_form c v5 v6 (k0_pay13 v1 v19 v30 v36 v40)

/-- The rows at offsets -3 and -2. -/
theorem rows_back : k0_pay25 v5 v6 v67 a (k0_pay22 v67) (k0_pay23 v6 v67) (k0_pay24 v5) (FloatOps.ofBits (F := Ideal) .f32 0#32) (ix2 0 c)
   = a (ix2 0 c) + rowForm (v5 (ix2 0 c) + Ideal.ofBits .f32 0xC0400000#32) (v6 (ix2 0 c)) (v67 (ix2 0 c) - Ideal.ofBits .f32 0x41100000#32)
    + rowForm (v5 (ix2 0 c) + Ideal.ofBits .f32 0xC0000000#32) (v6 (ix2 0 c)) (v67 (ix2 0 c) - Ideal.ofBits .f32 0x40800000#32) := by
  pointwise [k0_pay25, k0_pay22, k0_pay23, k0_pay24, rowForm]

/-- The row at offset -1. -/
theorem row_before : k0_pay28 v5 a (k0_pay26 v67) (k0_pay27 v6 v67) (FloatOps.ofBits (F := Ideal) .f32 1065353216#32) (ix2 0 c)
   = a (ix2 0 c) + rowForm (v5 (ix2 0 c) + Ideal.ofBits .f32 0xBF800000#32) (v6 (ix2 0 c)) (v67 (ix2 0 c) - 1) := by
  pointwise [k0_pay28, k0_pay26, k0_pay27, rowForm]

/-- The rows at offsets 0 and 1. -/
theorem rows_mid : k0_pay30 v5 v6 v67 a (k0_pay29 v5 v6 v67) (ix2 0 c)
   = a (ix2 0 c) + rowForm (v5 (ix2 0 c)) (v6 (ix2 0 c)) (v67 (ix2 0 c)) + rowForm (v5 (ix2 0 c) + 1) (v6 (ix2 0 c)) (v67 (ix2 0 c) - 1) := by
  pointwise [k0_pay30, k0_pay29, rowForm]

/-- The rows at offsets 2 and 3. -/
theorem rows_on : k0_pay34 v5 v6 v67 a (k0_pay31 v67) (k0_pay32 v6 v67) (k0_pay33 v5) (FloatOps.ofBits (F := Ideal) .f32 0#32) (ix2 0 c)
   = a (ix2 0 c) + rowForm (v5 (ix2 0 c) + Ideal.ofBits .f32 0x40000000#32) (v6 (ix2 0 c)) (v67 (ix2 0 c) - Ideal.ofBits .f32 0x40800000#32)
    + rowForm (v5 (ix2 0 c) + Ideal.ofBits .f32 0x40400000#32) (v6 (ix2 0 c)) (v67 (ix2 0 c) - Ideal.ofBits .f32 0x41100000#32) := by
  pointwise [k0_pay34, k0_pay31, k0_pay32, k0_pay33, rowForm]

variable (v53 v63 v73 v76 : FVec Ideal S1x1024 .f32)
/-- The count of positions outside. -/
def outCount (a v5 v6 v67 : FVec Ideal S1x1024 .f32) (c : Fin 1024) : EReal := Ideal.ofBits .f32 0x44800000#32 - (a (ix2 0 c) + rowForm (v5 (ix2 0 c) + Ideal.ofBits .f32 0x40800000#32) (v6 (ix2 0 c)) (v67 (ix2 0 c) - Ideal.ofBits .f32 0x41800000#32))
/-- The ratio. -/
def laneRatio (c : Fin 1024) (v5 v6 v67 a v53 v63 v73 v76 : FVec Ideal S1x1024 .f32) : EReal :=
  Ideal.div (v53 (ix2 0 c) - Ideal.div (v73 (ix2 0 c)) (outCount a v5 v6 v67 c))
      (Ideal.div (v76 (ix2 0 c) - v73 (ix2 0 c) * Ideal.div (v73 (ix2 0 c)) (outCount a v5 v6 v67 c)) (outCount a v5 v6 v67 c - 1) * v63 (ix2 0 c)
       + Ideal.ofBits .f32 0x24E69595#32)

/-- The body's result: the ratio over the mean ratio. -/
theorem lane_out : k0_pay37 v5 v6 v53 v63 v73 v76 a (k0_pay35 v67) k0_pay36 (ix2 0 c)
   = Ideal.div (laneRatio c v5 v6 v67 a v53 v63 v73 v76) (Ideal.div (∑ x, laneRatio x v5 v6 v67 a v53 v63 v73 v76) (Ideal.ofBits .f32 1149239296#32) + Ideal.ofBits .f32 841731191#32) := by
  pointwise [k0_pay37, k0_pay35, k0_pay36, laneRatio, outCount, rowForm]

/-- The greatest value of a column. -/
theorem peak_lane : k0_pay10 v1 (ix2 0 c) = Finset.univ.fold max (⊥ : EReal) (fun j => v1 (ix2 j c)) := by
  pointwise [k0_pay10]
  rw [lit_bot]

/-- The stored block's lane. -/
theorem shape_lane : k0_pay1 a (ix3 0 0 c) = a (ix2 0 c) := by
  pointwise [k0_pay1]

variable (x0 : Vec Ideal S1x1024x1024 .f32)
/-- The loaded map's entry. -/
theorem map_lane (j : Fin 1024): k0_pay2 x0 (ix2 j c) = x0 (ix3 0 j c) := by
  pointwise [k0_pay2]

/-- The nine rows' counts add up to the disc's. -/
theorem rows_sum (py px t : ℕ) (hpy : py < 32) (hpx : px < 32) (ht : t ≤ 20) (y x tk : EReal) (hy : y = ((py : ℝ) : EReal))
    (hx : x = ((px : ℝ) : EReal)) (h : tk = ((t : ℝ) : EReal)) :
    Ideal.ofBits .f32 0x44800000#32
      - (rowForm (y + Ideal.ofBits .f32 0xC0800000#32) x (tk - Ideal.ofBits .f32 0x41800000#32)
        + rowForm (y + Ideal.ofBits .f32 0xC0400000#32) x (tk - Ideal.ofBits .f32 0x41100000#32)
        + rowForm (y + Ideal.ofBits .f32 0xC0000000#32) x (tk - Ideal.ofBits .f32 0x40800000#32)
        + rowForm (y + Ideal.ofBits .f32 0xBF800000#32) x (tk - 1)
        + rowForm y x tk
        + rowForm (y + 1) x (tk - 1)
        + rowForm (y + Ideal.ofBits .f32 0x40000000#32) x (tk - Ideal.ofBits .f32 0x40800000#32)
        + rowForm (y + Ideal.ofBits .f32 0x40400000#32) x (tk - Ideal.ofBits .f32 0x41100000#32)
        + rowForm (y + Ideal.ofBits .f32 0x40800000#32) x (tk - Ideal.ofBits .f32 0x41800000#32))
      = (outside py px t : EReal) := by
  subst hy hx h
  rw [lit_neg4, lit_neg3, lit_neg2, lit_neg1, lit_2, lit_3, lit_4, lit_9, lit_16, lit_1024, ← EReal.coe_one]
  simp only [← EReal.coe_add, ← EReal.coe_sub]
  rw [rowForm_eq py px t (-4) hpx _ _ _ (by norm_num) rfl (by norm_num),
    rowForm_eq py px t (-3) hpx _ _ _ (by norm_num) rfl (by norm_num),
    rowForm_eq py px t (-2) hpx _ _ _ (by norm_num) rfl (by norm_num),
    rowForm_eq py px t (-1) hpx _ _ _ (by norm_num) rfl (by norm_num),
    rowForm_eq py px t 0 hpx _ _ _ (by norm_num) rfl (by norm_num),
    rowForm_eq py px t 1 hpx _ _ _ (by norm_num) rfl (by norm_num),
    rowForm_eq py px t 2 hpx _ _ _ (by norm_num) rfl (by norm_num),
    rowForm_eq py px t 3 hpx _ _ _ (by norm_num) rfl (by norm_num),
    rowForm_eq py px t 4 hpx _ _ _ (by norm_num) rfl (by norm_num)]
  simp only [← EReal.coe_add, ← EReal.coe_sub]
  rw [outside, discCard_eq py px t hpy hpx ht]
  push_cast
  rfl

/-- The radius that the body computes from a block. -/
def blockRadius (x0 : Vec Ideal S1x1024x1024 .f32) (x1 : Vec Ideal S1024x6 .f32) (x2 : Vec Ideal S1x2x1024 .i32) :
    FVec Ideal S1x1024 .f32 :=
  k0_pay13 (k0_pay2 x0) (k0_pay6 x2 x1) (k0_pay7 x2) (k0_pay8 x2) (k0_pay9 x2)

/-- The count of the disc's rows but the last. -/
def blockRows (v1 v19 : FVec Ideal S1024x1024 .f32) (v5 v6 v30 v36 v40 : FVec Ideal S1x1024 .f32)
    (v67 : FVec Ideal S1x1024 .f32) : FVec Ideal S1x1024 .f32 :=
  k0_pay34 v5 v6 v67
    (k0_pay30 v5 v6 v67
      (k0_pay28 v5
        (k0_pay25 v5 v6 v67
          (k0_pay21 v5 v6 k0_pay17 (k0_pay18 v1 v19 v30 v36 v40) (k0_pay19 v1 v19 v30 v36 v40) (k0_pay20 v1 v6 v19 v30 v36 v40))
          (k0_pay22 v67) (k0_pay23 v6 v67) (k0_pay24 v5) (FloatOps.ofBits (F := Ideal) .f32 0#32))
        (k0_pay26 v67) (k0_pay27 v6 v67) (FloatOps.ofBits (F := Ideal) .f32 1065353216#32))
      (k0_pay29 v5 v6 v67))
    (k0_pay31 v67) (k0_pay32 v6 v67) (k0_pay33 v5) (FloatOps.ofBits (F := Ideal) .f32 0#32)

/-- The block that the body stores. -/
def blockOut (x0 : Vec Ideal S1x1024x1024 .f32) (x1 : Vec Ideal S1024x6 .f32) (x2 : Vec Ideal S1x2x1024 .i32) :
    FVec Ideal S1x1x1024 .f32 :=
  k0_pay1 (k0_pay37 (k0_pay4 x2) (k0_pay5 x2) (k0_pay10 (k0_pay2 x0))
    (k0_pay12 (k0_pay2 x0) (k0_pay6 x2 x1) (k0_pay7 x2) (k0_pay8 x2) (k0_pay9 x2))
    (k0_pay15 (k0_pay2 x0) (k0_pay6 x2 x1) (k0_pay7 x2) (k0_pay8 x2) (k0_pay9 x2))
    (k0_pay16 (k0_pay2 x0) (k0_pay6 x2 x1) (k0_pay7 x2) (k0_pay8 x2) (k0_pay9 x2))
    (blockRows (k0_pay2 x0) (k0_pay6 x2 x1) (k0_pay4 x2) (k0_pay5 x2) (k0_pay7 x2) (k0_pay8 x2) (k0_pay9 x2) (blockRadius x0 x1 x2))
    (k0_pay35 (blockRadius x0 x1 x2)) k0_pay36)

section

variable (x0 : Vec Ideal S1x1024x1024 .f32) (x1 : Vec Ideal S1024x6 .f32) (x2 : Vec Ideal S1x2x1024 .i32)
  (cv : Fin 1024 → Fin 1024 → EReal) (py px : Fin 1024 → ℕ)
  (h0 : ∀ j c, x0 (ix3 0 j c) = cv c j)
  (h1 : ∀ j : Fin 1024, ∀ k : Fin 6, x1 (ix2 j k) = (((pix j.val k.val : ℤ) : ℝ) : EReal))
  (hy : ∀ c, (x2 (ix3 0 0 c)).toInt = (py c : ℤ)) (hx : ∀ c, (x2 (ix3 0 1 c)).toInt = (px c : ℤ))
  (hpy : ∀ c, py c < 32) (hpx : ∀ c, px c < 32)

include h0 h1 hy hx hpy hpx

/-- One lane's ratio. -/
theorem block_ratio (c : Fin 1024) :
    laneRatio c (k0_pay4 x2) (k0_pay5 x2) (blockRadius x0 x1 x2)
      (blockRows (k0_pay2 x0) (k0_pay6 x2 x1) (k0_pay4 x2) (k0_pay5 x2) (k0_pay7 x2) (k0_pay8 x2) (k0_pay9 x2) (blockRadius x0 x1 x2))
      (k0_pay10 (k0_pay2 x0))
      (k0_pay12 (k0_pay2 x0) (k0_pay6 x2 x1) (k0_pay7 x2) (k0_pay8 x2) (k0_pay9 x2))
      (k0_pay15 (k0_pay2 x0) (k0_pay6 x2 x1) (k0_pay7 x2) (k0_pay8 x2) (k0_pay9 x2))
      (k0_pay16 (k0_pay2 x0) (k0_pay6 x2 x1) (k0_pay7 x2) (k0_pay8 x2) (k0_pay9 x2))
      = ratio (cv c) (py c) (px c) := by
  have e4 := pay4_at x2 c (py c) (hy c)
  have e5 := pay5_at x2 c (px c) (hx c)
  have e1 : ∀ j, k0_pay2 x0 (ix2 j c) = cv c j := fun j => (map_lane c x0 j).trans (h0 j c)
  have e19 : ∀ j, k0_pay6 x2 x1 (ix2 j c) = (((dsq (py c) (px c) j : ℕ) : ℝ) : EReal) := fun j =>
    pay6_at x2 c (py c) (px c) x1 j (h1 j) e4 e5
  have e30 := pay7_at x2 c (py c) e4
  have e36 := pay8_at x2 c (px c) e5
  have e40 := pay9_at x2 c (px c) e5
  have en : ((1024 : ℝ) : EReal) - k0_pay7 x2 (ix2 0 c) * (k0_pay8 x2 (ix2 0 c) - k0_pay9 x2 (ix2 0 c))
      = (outside (py c) (px c) 2 : EReal) := by
    rw [e30, e36, e40]
    exact small_outside (py c) (px c) (hpy c) (hpx c)
  have e11 := pay11_at (cv c) c (py c) (px c) _ _ _ _ _ e1 e19 en
  have e12 := pay12_at c _ _ _ _ _ _ e11
  have e13 := pay13_at (cv c) c (py c) (px c) _ _ _ _ _ e11
  have e15 := pay15_at (cv c) c (py c) (px c) _ _ _ _ _ e1 e19 _ e13
  have e16 := pay16_at (cv c) c (py c) (px c) _ _ _ _ _ e1 e19 _ e13
  have e10 : k0_pay10 (k0_pay2 x0) (ix2 0 c) = peakValue (cv c) := by
    rw [peak_lane, peakValue]
    simp only [e1]
  have eo : outCount (blockRows (k0_pay2 x0) (k0_pay6 x2 x1) (k0_pay4 x2) (k0_pay5 x2) (k0_pay7 x2) (k0_pay8 x2) (k0_pay9 x2)
      (blockRadius x0 x1 x2)) (k0_pay4 x2) (k0_pay5 x2) (blockRadius x0 x1 x2) c
      = (outside (py c) (px c) (radiusSq (cv c) (py c) (px c)) : EReal) := by
    rw [outCount, blockRows, rows_on, rows_mid, row_before, rows_back, first_row, blockRadius]
    exact rows_sum (py c) (px c) _ (hpy c) (hpx c) (radiusSq_le _ _ _) _ _ _ e4 e5 e13
  rw [laneRatio, eo, e10, e12, e15, e16, ← EReal.coe_one, ← EReal.coe_sub]
  exact ratio_alt (cv c) (py c) (px c) (hpy c) (hpx c)

/-- The stored block's lane `c` is map `c`'s ratio over the mean ratio. -/
theorem blockOut_at (c : Fin 1024) :
    blockOut x0 x1 x2 (ix3 0 0 c) = scaled (fun x => ratio (cv x) (py x) (px x)) c := by
  rw [blockOut, shape_lane, lane_out, lit_1024, scaled]
  simp only [block_ratio x0 x1 x2 cv py px h0 h1 hy hx hpy hpx]

end

end Cert.Psrw

end
-- ==== Proof.KernelArray.lean ====
/- What the kernel's result array holds after the run: at batch entry `b`, lane `c`, map `c`'s ratio over the mean ratio. -/
module

public import proofs.«01_k».proof.Proof.KernelBlock
public import proofs.«01_k».proof.Proof.Maps
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Psrw

open Idealize.ShloMosaic Idealize.ShloMosaic.TcCoe Cert.KernelIdeal Cert.KernelIdeal.Gen Idealize.SL.Sem
open Idealize.ShloMosaic.Pipeline (Dat)

variable (m : (ℓ : Loc nD τ sig) → Buf (Elt Ideal) ℓ) (c : Dev nD)

/-! Each window's block at a grid point. -/

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])

/-- The maps as the kernel reads them. -/
theorem V_maps (b : Fin 16) (j l : Fin 1024) :
    V m c main_v1 (ix3 b j l) = mapOf (m ((c : Thread nD τ).loc main_arg0)) b l j := by
  unfold V
  after_reads_at
  rfl

/-- The table as the kernel reads it. -/
theorem V_table (j : Fin 1024) (k : Fin 6) :
    V m c main_cst (ix2 j k) = (((pix j.val k.val : ℤ) : ℝ) : EReal) := by
  unfold V
  after_reads_at
  exact pix_value _ j.val k.val (rowMajor_val2 _ 6 rfl) k.isLt

/-- The peaks as the kernel reads them. -/
theorem V_peaks (b : Fin 16) (a : Fin 2) (l : Fin 1024) :
    V m c main_v2 (ix3 b a l) = (m ((c : Thread nD τ).loc main_arg1)) (ix3 b l a) := by
  unfold V
  after_reads_at

/-- A block of the maps. -/
theorem block_maps (t : Fin cfg0.N) (j l : Fin 1024) :
    iblk m c 0 t (ix3 0 j l) = V m c main_v1 (ix3 ⟨t.val, t.isLt⟩ j l) := by
  blk_point [iblk, idx0 t]

/-- The block of the table. -/
theorem block_table (t : Fin cfg0.N) (j : Fin 1024) (k : Fin 6) :
    iblk m c 1 t (ix2 j k) = V m c main_cst (ix2 j k) := by
  blk_point [iblk, idx1 t]

/-- A block of the peaks. -/
theorem block_peaks (t : Fin cfg0.N) (a : Fin 2) (l : Fin 1024) :
    iblk m c 2 t (ix3 0 a l) = V m c main_v2 (ix3 ⟨t.val, t.isLt⟩ a l) := by
  blk_point [iblk, idx2 t]

/-- The result array after the run. -/
theorem array_eq (h : OnMap (m ((c : Thread nD τ).loc main_arg1))) :
    (dats m 0 c).arrAt 3 cfg0.N
      = fun i : S16x1x1024.Idx => result (m ((c : Thread nD τ).loc main_arg0)) (m ((c : Thread nD τ).loc main_arg1)) (i 0) (i 2) := by
  refine (dats m 0 c).arrAt_eq_of_covers 3 _ (by decide +kernel) fun t hf y => ?_
  blk_simp
  rw [after0_3]
  unfold_out out0_3
  frame_out
  have hp := blockOut_at (iblk m c 0 t) (iblk m c 1 t) (iblk m c 2 t) (fun l => mapOf (m ((c : Thread nD τ).loc main_arg0)) ⟨t.val, t.isLt⟩ l)
    (fun l => coordOf (m ((c : Thread nD τ).loc main_arg1)) ⟨t.val, t.isLt⟩ l 0)
    (fun l => coordOf (m ((c : Thread nD τ).loc main_arg1)) ⟨t.val, t.isLt⟩ l 1)
    (fun j l => (block_maps m c t j l).trans (V_maps m c _ j l))
    (fun j k => (block_table m c t j k).trans (V_table m c j k))
    (fun l => (congrArg BitVec.toInt ((block_peaks m c t 0 l).trans (V_peaks m c _ 0 l))).trans (h.eq _ l 0))
    (fun l => (congrArg BitVec.toInt ((block_peaks m c t 1 l).trans (V_peaks m c _ 1 l))).trans (h.eq _ l 1))
    (fun l => h.lt _ l 0) (fun l => h.lt _ l 1) (y 2)
  have ey : y = ix3 0 0 (y 2) := by
    funext a
    match a with
    | 0 => exact Subsingleton.elim (α := Fin 1) _ _
    | 1 => exact Subsingleton.elim (α := Fin 1) _ _
    | 2 => rfl
  rw [ey]
  unfold blockOut blockRows blockRadius at hp
  have e0 : ((View.whole main_v3).slice (win0_3.rect t)).emb (ix3 0 0 (y 2)) 0 = (⟨t.val, t.isLt⟩ : Fin 16) := by
    apply Fin.ext
    blk_simp [idx3 t]
    simp
  have e2 : ((View.whole main_v3).slice (win0_3.rect t)).emb (ix3 0 0 (y 2)) 2 = (y 2 : Fin 1024) := by
    apply Fin.ext
    blk_simp [idx3 t]
  refine hp.trans ?_
  exact (congrArg₂ (result (m ((c : Thread nD τ).loc main_arg0)) (m ((c : Thread nD τ).loc main_arg1))) e0 e2).symm

end Cert.Psrw

end
-- ==== Proof.RefBig.lean ====
/- The reference's second mask: 1 outside the disc of the peak's width, kept between 3/2 and 9/2, and 0 inside. -/
module

public import proofs.«01_k».proof.Proof.RefWidth

@[expose] public section

set_option maxRecDepth 16384

noncomputable section

namespace Cert.Psrw

open Idealize.ShloMosaic Idealize.ShloMosaic.Routing Cert.ReferenceIdeal Cert.ReferenceIdeal.Value Cert.ReferenceIdeal.Read

/-- The second offsets' rows and columns. -/
def oy81 (k : Fin 81) : ℤ := ((k.val / 9 : ℕ) : ℤ) - 4
def ox81 (k : Fin 81) : ℤ := ((k.val % 9 : ℕ) : ℤ) - 4

/-- A square root of an integer is at most 9/2 when the integer is at most 20. -/
theorem sqrt_le_4_5 (D : ℤ) : ((Real.sqrt (D : ℝ) : ℝ) : EReal) ≤ ((9 / 2 : ℝ) : EReal) ↔ D ≤ 20 := by
  rw [EReal.coe_le_coe_iff, Real.sqrt_le_iff]
  constructor
  · rintro ⟨_, h⟩
    have : (D : ℝ) < 21 := by linarith
    have : D < 21 := by exact_mod_cast this
    omega
  · intro h
    have : (D : ℝ) ≤ 20 := by exact_mod_cast h
    exact ⟨by norm_num, by linarith⟩

/-- A length is at most the bounded width when its square is at most the bounded squared width. -/
theorem sqrt_le_width (D : ℤ) (W : ℕ) :
    ((Real.sqrt (D : ℝ) : ℝ) : EReal) ≤ min ((9 / 2 : ℝ) : EReal) (max ((3 / 2 : ℝ) : EReal) ((Real.sqrt (W : ℝ) : ℝ) : EReal))
      ↔ D ≤ ((min 20 (max 2 W) : ℕ) : ℤ) := by
  have hW : ((Real.sqrt (D : ℝ) : ℝ) : EReal) ≤ ((Real.sqrt (W : ℝ) : ℝ) : EReal) ↔ D ≤ (W : ℤ) := by
    rw [EReal.coe_le_coe_iff, Real.sqrt_le_sqrt_iff (Nat.cast_nonneg _)]
    exact_mod_cast Iff.rfl
  rw [le_min_iff, le_max_iff, sqrt_le_4_5, sqrt_le_1_5, hW]
  omega

/-- The second offsets. -/
theorem v31_word (k : Fin 81) (a : Fin 2) :
    (val_main_v31 (F := Ideal) (ix2 k a)).toInt = if a.val < 1 then oy81 k else ox81 k := by
  have hy : (IntOp.subi (BitVec.ofNat 32 (k.val / 9)) 4#32).toInt = oy81 k := offset_word _ 4 (by omega) (by omega)
  have hx : (IntOp.subi (BitVec.ofNat 32 (k.val % 9)) 4#32).toInt = ox81 k := offset_word _ 4 (by omega) (by omega)
  pointwise [val_main_v21, val_main_c_2, val_main_v22, val_main_v23, val_main_v24, val_main_c_3, val_main_v25, val_main_v26, val_main_v27, val_main_v28, val_main_v29, val_main_v30, val_main_v31]
  split_ifs <;> assumption

/-- An offset kept when it is short enough, as a word. -/
theorem kept_word (wy wx w : BitVec 32) (a b c : ℤ) (W : ℕ) (B : EReal)
    (hB : B = min ((9 / 2 : ℝ) : EReal) (max ((3 / 2 : ℝ) : EReal) ((Real.sqrt (W : ℝ) : ℝ) : EReal)))
    (hy : wy.toInt = a) (hx : wx.toInt = b) (hw : w.toInt = c) :
    (FloatOps.fptosi (F := Ideal) (φ := .f32) 32
      (FloatOps.uitofp (F := Ideal) .f32 (BitVec.ofBool (decide (Ideal.sqrt (FloatOps.sitofp (F := Ideal) .f32 wy * FloatOps.sitofp (F := Ideal) .f32 wy
        + FloatOps.sitofp (F := Ideal) .f32 wx * FloatOps.sitofp (F := Ideal) .f32 wx : EReal) ≤ B))) * FloatOps.sitofp (F := Ideal) .f32 w : EReal)).toInt
      = kept (min 20 (max 2 W)) a b c := by
  rw [mask_fptosi, norm_word _ _ _ _ hy hx, hB]
  unfold kept
  rw [apply_ite BitVec.toInt, hw]
  exact if_congr (sqrt_le_width _ W) rfl rfl

variable (x0 : Maps.Idx → EReal) (x1 : Peaks.Idx → BitVec 32) (x2 : Mesh.Idx → BitVec 32)

/-- The squared radius of the map of row `r`. -/
def rowT (r : Fin 16384) : ℕ := radiusSq (rowMap x0 r) (rowY x1 r) (rowX x1 r)

/-- The second offsets, those longer than the width set to zero. -/
theorem v154_word (h : OnMap x1) (hm : IsMesh x2) (r : Fin 16384) (k : Fin 81) (a : Fin 2) :
    (val_main_v154 (F := Ideal) x0 x1 x2 (ix3 r k a)).toInt
      = kept (rowT x0 x1 r) (oy81 k) (ox81 k) (if a.val < 1 then oy81 k else ox81 k) := by
  have e := kept_word _ _ _ _ _ _ _ _ (v140_at x0 x1 x2 h hm r) (v31_word k 0) (v31_word k 1) (v31_word k a)
  pointwise [val_main_v141, val_main_cst_30, val_main_v142, val_main_v143, val_main_v144, val_main_v145, val_main_v146, val_main_v147, val_main_v148, val_main_v149, val_main_v150, val_main_v151, val_main_v152, val_main_v153, val_main_v154, val_main_v32]
  simp only [Fin.sum_univ_two]
  exact e

/-- The third scatter's index words. -/
theorem v192_words (h : OnMap x1) (hm : IsMesh x2) (r : Fin 16384) (k : Fin 81) :
    (val_main_v192 (F := Ideal) x0 x1 x2 (ix3 r k 0)).toInt = (r.val : ℤ)
      ∧ (val_main_v192 (F := Ideal) x0 x1 x2 (ix3 r k 1)).toInt = clip (rowY x1 r + kept (rowT x0 x1 r) (oy81 k) (ox81 k) (oy81 k))
      ∧ (val_main_v192 (F := Ideal) x0 x1 x2 (ix3 r k 2)).toInt = clip (rowX x1 r + kept (rowT x0 x1 r) (oy81 k) (ox81 k) (ox81 k)) := by
  have key : ∀ a : Fin 2, (IntOp.minsi 31#32 (IntOp.maxsi 0#32
        (IntOp.addi (x1 (ix3 (rowB r) (rowL r) a)) (val_main_v154 (F := Ideal) x0 x1 x2 (ix3 r k a))))).toInt
      = clip (coordOf x1 (rowB r) (rowL r) a + kept (rowT x0 x1 r) (oy81 k) (ox81 k) (if a.val < 1 then oy81 k else ox81 k)) := fun a => by
    have hb := h.lt (rowB r) (rowL r) a
    have hk : -4 ≤ kept (rowT x0 x1 r) (oy81 k) (ox81 k) (if a.val < 1 then oy81 k else ox81 k)
        ∧ kept (rowT x0 x1 r) (oy81 k) (ox81 k) (if a.val < 1 then oy81 k else ox81 k) ≤ 4 := by
      unfold kept oy81 ox81
      split_ifs <;> omega
    exact toInt_clip _ _ (toInt_addi _ _ _ _ (h.eq _ _ a) (v154_word x0 x1 x2 h hm r k a) (by omega) (by omega))
  have h0 := key 0
  have h1 := key 1
  have hr := toInt_small r.val (by omega)
  refine ⟨?_, ?_, ?_⟩
  · pointwise [val_main_v155, val_main_v156, val_main_v157, val_main_v158, val_main_v159, val_main_c_31, val_main_c_32, val_main_call4_v0, val_main_call4_v1, val_main_call4_v2, val_main_call4_v3, val_main_call4_v4, val_main_v160, val_main_v161, val_main_v162, val_main_c_33, val_main_c_34, val_main_call5_v0, val_main_call5_v1, val_main_call5_v2, val_main_call5_v3, val_main_call5_v4, val_main_v163, val_main_v164, val_main_v165, val_main_v166, val_main_cst_35, val_main_v167, val_main_v168, val_main_v169, val_main_v170, val_main_v171, val_main_v172, val_main_c_36, val_main_v173, val_main_v174, val_main_c_37, val_main_v175, val_main_v176, val_main_v177, val_main_c_38, val_main_v178, val_main_v179, val_main_c_39, val_main_v180, val_main_v181, val_main_v182, val_main_c_40, val_main_v183, val_main_v184, val_main_c_41, val_main_v185, val_main_v186, val_main_v187, val_main_v188, val_main_v189, val_main_v190, val_main_v191, val_main_v192, val_main_v82, val_main_v48]
    exact (congrArg BitVec.toInt (wrap_keep _ _ (by rw [hr]; omega))).trans hr
  · pointwise [val_main_v155, val_main_v156, val_main_v157, val_main_v158, val_main_v159, val_main_c_31, val_main_c_32, val_main_call4_v0, val_main_call4_v1, val_main_call4_v2, val_main_call4_v3, val_main_call4_v4, val_main_v160, val_main_v161, val_main_v162, val_main_c_33, val_main_c_34, val_main_call5_v0, val_main_call5_v1, val_main_call5_v2, val_main_call5_v3, val_main_call5_v4, val_main_v163, val_main_v164, val_main_v165, val_main_v166, val_main_cst_35, val_main_v167, val_main_v168, val_main_v169, val_main_v170, val_main_v171, val_main_v172, val_main_c_36, val_main_v173, val_main_v174, val_main_c_37, val_main_v175, val_main_v176, val_main_v177, val_main_c_38, val_main_v178, val_main_v179, val_main_c_39, val_main_v180, val_main_v181, val_main_v182, val_main_c_40, val_main_v183, val_main_v184, val_main_c_41, val_main_v185, val_main_v186, val_main_v187, val_main_v188, val_main_v189, val_main_v190, val_main_v191, val_main_v192, val_main_v82, val_main_v48]
    exact (congrArg BitVec.toInt (wrap_keep _ _ (le_of_le_of_eq (clip_nonneg _) h0.symm))).trans h0
  · pointwise [val_main_v155, val_main_v156, val_main_v157, val_main_v158, val_main_v159, val_main_c_31, val_main_c_32, val_main_call4_v0, val_main_call4_v1, val_main_call4_v2, val_main_call4_v3, val_main_call4_v4, val_main_v160, val_main_v161, val_main_v162, val_main_c_33, val_main_c_34, val_main_call5_v0, val_main_call5_v1, val_main_call5_v2, val_main_call5_v3, val_main_call5_v4, val_main_v163, val_main_v164, val_main_v165, val_main_v166, val_main_cst_35, val_main_v167, val_main_v168, val_main_v169, val_main_v170, val_main_v171, val_main_v172, val_main_c_36, val_main_v173, val_main_v174, val_main_c_37, val_main_v175, val_main_v176, val_main_v177, val_main_c_38, val_main_v178, val_main_v179, val_main_c_39, val_main_v180, val_main_v181, val_main_v182, val_main_c_40, val_main_v183, val_main_v184, val_main_c_41, val_main_v185, val_main_v186, val_main_v187, val_main_v188, val_main_v189, val_main_v190, val_main_v191, val_main_v192, val_main_v82, val_main_v48]
    exact (congrArg BitVec.toInt (wrap_keep _ _ (le_of_le_of_eq (clip_nonneg _) h1.symm))).trans h1

/-- The second mask. -/
theorem v195_at (h : OnMap x1) (hm : IsMesh x2) (r : Fin 16384) (j : Fin 1024) :
    val_main_v195 (F := Ideal) x0 x1 x2 (ix2 r j) = if rowT x0 x1 r < dsq (rowY x1 r) (rowX x1 r) j then (1 : EReal) else 0 := by
  have ht : rowT x0 x1 r < (4 + 1) ^ 2 := lt_of_le_of_lt (radiusSq_le _ _ _) (by norm_num)
  have hc := covered_iff oy81 ox81 4 (rowT x0 x1 r) _ _ (h.lt (rowB r) (rowL r) 0) (h.lt (rowB r) (rowL r) 1) ht
    (fun a b h1 h2 h3 h4 => offsets81 a b h1 h2 h3 h4) j
  have hw := fun k => v192_words x0 x1 x2 h hm r k
  have hread : val_main_v195 (F := Ideal) x0 x1 x2 (ix2 r j)
      = val_main_v194 (F := Ideal) x0 x1 x2 (ix3 r ⟨j.val / 32, by omega⟩ ⟨j.val % 32, by omega⟩) := by
    pointwise [val_main_v195]
  rw [hread, val_main_v194]
  split_ifs with hd
  · rw [scatter_set_miss]
    · pointwise [val_main_v167, val_main_cst_35]
    · intro i hi
      obtain ⟨r', k, rfl⟩ : ∃ (r' : Fin 16384) (k : Fin 81), i = ix2 r' k := ⟨i 0, i 1, eq_ix2 i⟩
      obtain ⟨e0, e1, e2⟩ := (lands81 _ _ _ _ _ _).1 hi
      obtain rfl : r' = r := Fin.ext (by exact_mod_cast ((v192_words x0 x1 x2 h hm r' k).1.symm.trans e0))
      exact absurd (hc.1 ⟨k, (hw k).2.1.symm.trans e1, (hw k).2.2.symm.trans e2⟩) (not_le.2 hd)
  · obtain ⟨k, hy, hx⟩ := hc.2 (not_lt.1 hd)
    refine scatter_set_hit _ _ _ _ _ _ (fun i _ => ?_) (ix2 r k) ((lands81 _ _ _ _ _ _).2 ⟨(hw k).1, (hw k).2.1.trans hy, (hw k).2.2.trans hx⟩)
    rw [eq_ix2 i]
    pointwise [val_main_v193, val_main_cst_42]

end Cert.Psrw

end
-- ==== Proof.RefRatio.lean ====
/- What the reference's result holds: each map's ratio over its batch entry's mean ratio. -/
module

public import proofs.«01_k».proof.Proof.RefBig

@[expose] public section

set_option maxRecDepth 16384

noncomputable section

namespace Cert.Psrw

open Idealize.ShloMosaic Cert.ReferenceIdeal Cert.ReferenceIdeal.Value Cert.ReferenceIdeal.Read

variable (x0 : Maps.Idx → EReal) (x1 : Peaks.Idx → BitVec 32) (x2 : Mesh.Idx → BitVec 32)

/-- Subtraction, at an index. -/
theorem subf_at (a b : S16384x1.Idx → EReal) (i : S16384x1.Idx) : subf (F := Ideal) (φ := .f32) a b i = a i - b i := rfl

/-- The ratio's last steps, at an index. -/
theorem ratio_at (p n d s w e : S16384x1.Idx → EReal) (i : S16384x1.Idx) :
    Host.divf (F := Ideal) (φ := .f32) (subf p n) (addf (mulf (Host.divf d s) w) e) i
      = Ideal.div (p i - n i) (Ideal.div (d i) (s i) * w i + e i) := rfl

/-- How many positions lie outside the disc. -/
theorem v197_at (h : OnMap x1) (hm : IsMesh x2) (r : Fin 16384) :
    val_main_v197 (F := Ideal) x0 x1 x2 (ix2 r 0) = ((outside (rowY x1 r) (rowX x1 r) (rowT x0 x1 r) : ℝ) : EReal) := by
  have e := mask_sum (fun j => val_main_v195 (F := Ideal) x0 x1 x2 (ix2 r j)) (rowY x1 r) (rowX x1 r) (rowT x0 x1 r)
    (fun j => v195_at x0 x1 x2 h hm r j)
  pointwise [val_main_cst_43, val_main_v196, val_main_v197]
  exact e

/-- The mean outside the disc. -/
theorem v201_at (h : OnMap x1) (hm : IsMesh x2) (r : Fin 16384) :
    val_main_v201 (F := Ideal) x0 x1 x2 (ix2 r 0) = sideMean (rowMap x0 r) (rowY x1 r) (rowX x1 r) (rowT x0 x1 r) := by
  have e := mask_values (rowMap x0 r) (fun j => val_main_v195 (F := Ideal) x0 x1 x2 (ix2 r j)) (rowY x1 r) (rowX x1 r) (rowT x0 x1 r)
    (fun j => v195_at x0 x1 x2 h hm r j)
  simp only [← v81_at] at e
  have q : val_main_v200 (F := Ideal) x0 x1 x2 (ix2 r 0)
      = ∑ j, val_main_v81 (F := Ideal) x0 (ix2 r j) * val_main_v195 (F := Ideal) x0 x1 x2 (ix2 r j) := row_sum_at _ _ r
  rw [sideMean, ← e, ← v197_at x0 x1 x2 h hm, ← q]
  exact divf_at _ _ _

/-- The sum of the squared deviations outside the disc. -/
theorem v207_at (h : OnMap x1) (hm : IsMesh x2) (r : Fin 16384) :
    val_main_v207 (F := Ideal) x0 x1 x2 (ix2 r 0) = sideDev (rowMap x0 r) (rowY x1 r) (rowX x1 r) (rowT x0 x1 r) := by
  have e := mask_dev (rowMap x0 r) (fun j => val_main_v195 (F := Ideal) x0 x1 x2 (ix2 r j)) (rowY x1 r) (rowX x1 r) (rowT x0 x1 r)
    (fun j => v195_at x0 x1 x2 h hm r j) _ (v201_at x0 x1 x2 h hm r)
  simp only [← v81_at] at e
  pointwise [val_main_v202, val_main_v203, val_main_v204, val_main_v205, val_main_cst_45, val_main_v206, val_main_v207]
  exact e

/-- The greatest value of the map. -/
theorem v212_at (r : Fin 16384) : val_main_v212 (F := Ideal) x0 (ix2 r 0) = peakValue (rowMap x0 r) := by
  unfold peakValue
  simp only [← v81_at]
  rw [← lit_bot]
  pointwise [val_main_cst_47, val_main_v211, val_main_v212]

/-- The ratio of the map of row `r`. -/
theorem v217_at (h : OnMap x1) (hm : IsMesh x2) (r : Fin 16384) :
    val_main_v217 (F := Ideal) x0 x1 x2 (ix2 r 0) = ratio (rowMap x0 r) (rowY x1 r) (rowX x1 r) := by
  have q : val_main_v217 (F := Ideal) x0 x1 x2 (ix2 r 0)
      = Ideal.div (val_main_v212 (F := Ideal) x0 (ix2 r 0) - val_main_v201 (F := Ideal) x0 x1 x2 (ix2 r 0))
        (Ideal.div (val_main_v207 (F := Ideal) x0 x1 x2 (ix2 r 0)) (val_main_v197 (F := Ideal) x0 x1 x2 (ix2 r 0) - 1)
          * val_main_v139 (F := Ideal) x0 x1 x2 (ix2 r 0) + Ideal.ofBits .f32 0x24E69595#32) := by
    have o : val_main_v208 (F := Ideal) (ix2 r 0) = 1 := by
      pointwise [val_main_v208, val_main_cst_46]
    have s : val_main_v209 (F := Ideal) x0 x1 x2 (ix2 r 0) = val_main_v197 (F := Ideal) x0 x1 x2 (ix2 r 0) - val_main_v208 (F := Ideal) (ix2 r 0) :=
      subf_at _ _ _
    have t : val_main_v215 (F := Ideal) (ix2 r 0) = Ideal.ofBits .f32 0x24E69595#32 := by
      pointwise [val_main_v215, val_main_cst_48]
    rw [← o, ← s, ← t]
    exact ratio_at _ _ _ _ _ _ _
  rw [q, v212_at, v201_at x0 x1 x2 h hm, v207_at x0 x1 x2 h hm, v197_at x0 x1 x2 h hm, v139_at x0 x1 x2 h hm, ← EReal.coe_one, ← EReal.coe_sub]
  rfl

/-- The result. -/
theorem v227_at (h : OnMap x1) (hm : IsMesh x2) (b : Fin 16) (l : Fin 1024) :
    val_main_v227 (F := Ideal) x0 x1 x2 (ix3 b 0 l) = result x0 x1 b l := by
  have hr : ∀ l : Fin 1024, val_main_v217 (F := Ideal) x0 x1 x2 (ix2 ⟨b.val * 1024 + l.val, by omega⟩ 0)
      = ratio (mapOf x0 b l) (coordOf x1 b l 0) (coordOf x1 b l 1) := fun l => by
    have eb : rowB ⟨b.val * 1024 + l.val, by omega⟩ = b := Fin.ext (by show (b.val * 1024 + l.val) / 1024 = b.val; omega)
    have el : rowL ⟨b.val * 1024 + l.val, by omega⟩ = l := Fin.ext (by show (b.val * 1024 + l.val) % 1024 = l.val; omega)
    rw [v217_at x0 x1 x2 h hm, rowMap, rowY, rowX, eb, el]
  unfold result scaled
  simp only [← hr]
  rw [← lit_1024]
  pointwise [val_main_v218, val_main_cst_49, val_main_v219, val_main_v220, val_main_cst_50, val_main_v221, val_main_v222, val_main_cst_51, val_main_v223, val_main_v224, val_main_v225, val_main_v226, val_main_v227]

end Cert.Psrw

end
-- ==== Proof.Equation.lean ====
/- The two runs, each with its result array named by the same formula of the maps and the peaks. -/
module

public import proofs.«01_k».proof.Proof.KernelArray
public import proofs.«01_k».proof.Proof.RefRatio
public import proofs.«01_k».proof.Proof.Gen.KernelIdeal.Value
public import proofs.«01_k».proof.Proof.Gen.ReferenceIdeal.Run

@[expose] public section

set_option maxRecDepth 16384

noncomputable section

namespace Cert.Psrw

open Idealize.ShloMosaic Idealize.SL.Sem

/-- The result array: one value for each batch entry and landmark. -/
def resultArray (x0 : Maps.Idx → EReal) (x1 : Peaks.Idx → BitVec 32) : (⟨3, ![16, 1, 1024]⟩ : Shape).Idx → EReal :=
  fun i => result x0 x1 (i 0) (i 2)

/-- The reference's result array. -/
theorem v227_eq (x0 : Maps.Idx → EReal) (x1 : Peaks.Idx → BitVec 32) (x2 : Mesh.Idx → BitVec 32) (h : OnMap x1) (hm : IsMesh x2) :
    Cert.ReferenceIdeal.Read.val_main_v227 (F := Ideal) x0 x1 x2 = resultArray x0 x1 := by
  funext i
  obtain ⟨b, o, l, rfl⟩ : ∃ (b : Fin 16) (o : Fin 1) (l : Fin 1024), i = ix3 b o l := ⟨i 0, i 1, i 2, eq_ix3 i⟩
  obtain rfl : o = 0 := Subsingleton.elim _ _
  exact v227_at x0 x1 x2 h hm b l

/-- The kernel's run: its result array, and its arguments kept. -/
theorem kernel_run (m : (ℓ : Loc Cert.KernelIdeal.nD Cert.KernelIdeal.τ Cert.KernelIdeal.sig) → Buf (Elt Ideal) ℓ)
    (ρ : Dev Cert.KernelIdeal.nD → PrngReg)
    (h : ∀ c : Dev Cert.KernelIdeal.nD, OnMap (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
          = resultArray (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)) :=
  (θ_run Cert.KernelIdeal.defs _ _).mono (fun _ e c => ⟨(e c).1.trans (array_eq m c (h c)), (e c).2⟩)
    (Cert.KernelIdeal.Value.run_blocks (F := Ideal) m ρ)

/-- The reference's run: its result array, and its arguments kept. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (h : ∀ c : Dev Cert.ReferenceIdeal.nD, OnMap (m ((c.tc : Thread Cert.ReferenceIdeal.nD Cert.ReferenceIdeal.τ).loc Cert.ReferenceIdeal.main_arg1)))
    (hm : ∀ c : Dev Cert.ReferenceIdeal.nD, IsMesh (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v227)
          = resultArray (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run Cert.ReferenceIdeal.defs _ _).mono
    (fun _ e c => ⟨((e c).1.trans (Cert.ReferenceIdeal.Read.val_main_v227_eq (StableHlo.launchContents m c))).trans
      (v227_eq _ _ _ (h c) (hm c)), (e c).2⟩)
    (Cert.ReferenceIdeal.Value.run (F := Ideal) m ρ)

end Cert.Psrw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_setup_ranges
public import proofs.«01_k».proof.Proof.Gen.KernelIdeal.Value
public import proofs.«01_k».proof.Proof.Gen.ReferenceIdeal.Run
public import proofs.«01_k».proof.Proof.Gen.ReferenceIdeal.Read
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem Cert.Kernel

/-- `Cert.quiescent_ReferenceIdeal`: the reference's run keeps its arguments, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal_pre_setup_ranges`: from peaks on the map and a mesh of the positions' own
    coordinates, both runs end with the result array of the maps and the peaks. -/
theorem algebraic : Cert.algebraic_KernelIdeal_ReferenceIdeal_pre_setup_ranges := fun m ρ m' ρ' hpre hagree =>
  ⟨fun c => Psrw.resultArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Psrw.kernel_run m ρ fun c => Psrw.onMap_of_ranges _ _ _ (hpre c),
    (θ_run Cert.ReferenceIdeal.defs _ _).mono
      (fun _ h c => ⟨(h c).1.trans (congrArg₂ Psrw.resultArray (hagree c).1 (hagree c).2.1), (h c).2⟩)
      (Psrw.reference_run m' ρ'
        (fun c => Eq.mpr (congrArg Psrw.OnMap (hagree c).2.1) (Psrw.onMap_of_ranges _ _ _ (hpre c)))
        (fun c => Eq.mpr (congrArg Psrw.IsMesh (hagree c).2.2) (Psrw.isMesh_of_ranges _ _ _ (hpre c))))⟩

/-- `Cert.Claim`: the kernel's frames are the generated ones, the idealization changed no operation, and the reference's
    frame and the equation are proved above. -/
theorem claim : Cert.Claim := ⟨Cert.Kernel.Gen.facts, Cert.KernelIdeal.Gen.facts, Cert.ReferenceIdeal.Gen.facts, Cert.Pre_setup_ranges.Gen.facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  trivial,
  algebraic⟩

end Cert.Proof

end
